-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![32, 1024]⟩ ⟨2, ![1024, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 32]⟩ ⟨2, ![1024, 1024]⟩ 1 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 32]⟩ ⟨2, ![1024, 1024]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1024 : Shape := ⟨2, ![32, 1024]⟩
abbrev S1024x32 : Shape := ⟨2, ![1024, 32]⟩
abbrev S1024x1024 : Shape := ⟨2, ![1024, 1024]⟩
abbrev S3 : Shape := ⟨1, ![3]⟩
abbrev S14 : Shape := ⟨1, ![14]⟩
abbrev S_ : Shape := ⟨0, ![]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S32x1024, .bf16⟩
  | .hbm, ⟨1, _⟩ => ⟨S1024x32, .bf16⟩
  | .hbm, ⟨2, _⟩ => ⟨S1024x32, .f32⟩
  | .local _ .vmem, ⟨0, _⟩ => ⟨S32x1024, .bf16⟩
  | .local _ .vmem, ⟨1, _⟩ => ⟨S1024x32, .bf16⟩
  | .local _ .vmem, ⟨2, _⟩ => ⟨S1024x32, .f32⟩
  | .local _ .vmem, ⟨3, _⟩ => ⟨S1024x1024, .bf16⟩
  | _, _ => ⟨S32x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  (ofTc nBuf bufTy 1 65 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_35 : BitVec 32 := 8#32
  let v55 : BitVec 32 := Scalar.muli v19 c8_i32_35
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_33 : BitVec 32 := 8#32
  let v53 : BitVec 32 := Scalar.addi v34 c8_i32_33
  let c1_i32_34 : BitVec 32 := 1#32
  let v54 : BitVec 32 := Scalar.subi v53 c1_i32_34
  let c8_i32_36 : BitVec 32 := 8#32
  let v56 : BitVec 32 := Scalar.remsi v54 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_38 : BitVec 32 := 1#32
  let c0_i32_39 : BitVec 32 := 0#32
  let v58 : BitVec 32 := Scalar.select v57 c1_i32_38 c0_i32_39
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v55 v70
  let c1_i32_62 : BitVec 32 := 1#32
  let v85 : BitVec 32 := Scalar.muli v71 c1_i32_62
  let v86 : BitVec 32 := Scalar.addi c0_i32_63 v85
  v86.toNat
def k0_dev2 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v36 : BitVec 32 := Scalar.muli v19 c8_i32_16
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_15 : BitVec 32 := 1#32
  let v35 : BitVec 32 := Scalar.addi v34 c1_i32_15
  let c8_i32_17 : BitVec 32 := 8#32
  let v37 : BitVec 32 := Scalar.remsi v35 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_19 : BitVec 32 := 1#32
  let c0_i32_20 : BitVec 32 := 0#32
  let v39 : BitVec 32 := Scalar.select v38 c1_i32_19 c0_i32_20
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v36 v51
  let c1_i32_65 : BitVec 32 := 1#32
  let v87 : BitVec 32 := Scalar.muli v52 c1_i32_65
  let v88 : BitVec 32 := Scalar.addi c0_i32_66 v87
  v88.toNat
def k0_dev3 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_52 : BitVec 32 := 1#32
  let v72 : BitVec 32 := Scalar.addi v19 c1_i32_52
  let c4_i32_53 : BitVec 32 := 4#32
  let v73 : BitVec 32 := Scalar.remsi v72 c4_i32_53
  let c8_i32_54 : BitVec 32 := 8#32
  let v74 : BitVec 32 := Scalar.muli v73 c8_i32_54
  let c8_i32_5 : BitVec 32 := 8#32
  let v20 : BitVec 32 := Scalar.remsi v2 c8_i32_5
  let v75 : BitVec 32 := Scalar.addi v74 v20
  let c1_i32_68 : BitVec 32 := 1#32
  let v89 : BitVec 32 := Scalar.muli v75 c1_i32_68
  let v90 : BitVec 32 := Scalar.addi c0_i32_69 v89
  v90.toNat
def k0_dev4 (d0 : Dev nD) : Nat :=
  let c0_i32_72 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_55 : BitVec 32 := 2#32
  let v76 : BitVec 32 := Scalar.addi v19 c2_i32_55
  let c4_i32_56 : BitVec 32 := 4#32
  let v77 : BitVec 32 := Scalar.remsi v76 c4_i32_56
  let c8_i32_57 : BitVec 32 := 8#32
  let v78 : BitVec 32 := Scalar.muli v77 c8_i32_57
  let c8_i32_5 : BitVec 32 := 8#32
  let v20 : BitVec 32 := Scalar.remsi v2 c8_i32_5
  let v79 : BitVec 32 := Scalar.addi v78 v20
  let c1_i32_71 : BitVec 32 := 1#32
  let v91 : BitVec 32 := Scalar.muli v79 c1_i32_71
  let v92 : BitVec 32 := Scalar.addi c0_i32_72 v91
  v92.toNat
def k0_dev5 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_58 : BitVec 32 := 3#32
  let v80 : BitVec 32 := Scalar.addi v19 c3_i32_58
  let c4_i32_59 : BitVec 32 := 4#32
  let v81 : BitVec 32 := Scalar.remsi v80 c4_i32_59
  let c8_i32_60 : BitVec 32 := 8#32
  let v82 : BitVec 32 := Scalar.muli v81 c8_i32_60
  let c8_i32_5 : BitVec 32 := 8#32
  let v20 : BitVec 32 := Scalar.remsi v2 c8_i32_5
  let v83 : BitVec 32 := Scalar.addi v82 v20
  let c1_i32_74 : BitVec 32 := 1#32
  let v93 : BitVec 32 := Scalar.muli v83 c1_i32_74
  let v94 : BitVec 32 := Scalar.addi c0_i32_75 v93
  v94.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_77 : BitVec 32 := 32#32
  let v95 : BitVec 32 := Scalar.muli v2 c32_i32_77
  let v98 : Index := Scalar.indexCast v95
  let c0_79 : Index := 0#32
  ![v98.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_81 : BitVec 32 := 32#32
  let v103 : BitVec 32 := Scalar.muli v2 c32_i32_81
  let c0_i32_86 : BitVec 32 := 0#32
  ![v103.toNat, 0]
def k0_dev6 (d0 : Dev nD) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_52 : BitVec 32 := 1#32
  let v72 : BitVec 32 := Scalar.addi v19 c1_i32_52
  let c4_i32_53 : BitVec 32 := 4#32
  let v73 : BitVec 32 := Scalar.remsi v72 c4_i32_53
  let c8_i32_54 : BitVec 32 := 8#32
  let v74 : BitVec 32 := Scalar.muli v73 c8_i32_54
  let c8_i32_5 : BitVec 32 := 8#32
  let v20 : BitVec 32 := Scalar.remsi v2 c8_i32_5
  let v75 : BitVec 32 := Scalar.addi v74 v20
  let c1_i32_84 : BitVec 32 := 1#32
  let v104 : BitVec 32 := Scalar.muli v75 c1_i32_84
  let v105 : BitVec 32 := Scalar.addi c0_i32_85 v104
  v105.toNat
def k0_dev7 (d0 : Dev nD) : Nat :=
  let c0_i32_93 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_55 : BitVec 32 := 2#32
  let v76 : BitVec 32 := Scalar.addi v19 c2_i32_55
  let c4_i32_56 : BitVec 32 := 4#32
  let v77 : BitVec 32 := Scalar.remsi v76 c4_i32_56
  let c8_i32_57 : BitVec 32 := 8#32
  let v78 : BitVec 32 := Scalar.muli v77 c8_i32_57
  let c8_i32_5 : BitVec 32 := 8#32
  let v20 : BitVec 32 := Scalar.remsi v2 c8_i32_5
  let v79 : BitVec 32 := Scalar.addi v78 v20
  let c1_i32_92 : BitVec 32 := 1#32
  let v114 : BitVec 32 := Scalar.muli v79 c1_i32_92
  let v115 : BitVec 32 := Scalar.addi c0_i32_93 v114
  v115.toNat
def k0_dev8 (d0 : Dev nD) : Nat :=
  let c0_i32_101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_58 : BitVec 32 := 3#32
  let v80 : BitVec 32 := Scalar.addi v19 c3_i32_58
  let c4_i32_59 : BitVec 32 := 4#32
  let v81 : BitVec 32 := Scalar.remsi v80 c4_i32_59
  let c8_i32_60 : BitVec 32 := 8#32
  let v82 : BitVec 32 := Scalar.muli v81 c8_i32_60
  let c8_i32_5 : BitVec 32 := 8#32
  let v20 : BitVec 32 := Scalar.remsi v2 c8_i32_5
  let v83 : BitVec 32 := Scalar.addi v82 v20
  let c1_i32_100 : BitVec 32 := 1#32
  let v124 : BitVec 32 := Scalar.muli v83 c1_i32_100
  let v125 : BitVec 32 := Scalar.addi c0_i32_101 v124
  v125.toNat
def k0_dev9 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v36 : BitVec 32 := Scalar.muli v19 c8_i32_16
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_15 : BitVec 32 := 1#32
  let v35 : BitVec 32 := Scalar.addi v34 c1_i32_15
  let c8_i32_17 : BitVec 32 := 8#32
  let v37 : BitVec 32 := Scalar.remsi v35 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_19 : BitVec 32 := 1#32
  let c0_i32_20 : BitVec 32 := 0#32
  let v39 : BitVec 32 := Scalar.select v38 c1_i32_19 c0_i32_20
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v36 v51
  let c1_i32_108 : BitVec 32 := 1#32
  let v134 : BitVec 32 := Scalar.muli v52 c1_i32_108
  let v135 : BitVec 32 := Scalar.addi c0_i32_109 v134
  v135.toNat
def k0_dev10 (d0 : Dev nD) : Nat :=
  let c0_i32_117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_35 : BitVec 32 := 8#32
  let v55 : BitVec 32 := Scalar.muli v19 c8_i32_35
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_33 : BitVec 32 := 8#32
  let v53 : BitVec 32 := Scalar.addi v34 c8_i32_33
  let c1_i32_34 : BitVec 32 := 1#32
  let v54 : BitVec 32 := Scalar.subi v53 c1_i32_34
  let c8_i32_36 : BitVec 32 := 8#32
  let v56 : BitVec 32 := Scalar.remsi v54 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_38 : BitVec 32 := 1#32
  let c0_i32_39 : BitVec 32 := 0#32
  let v58 : BitVec 32 := Scalar.select v57 c1_i32_38 c0_i32_39
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v55 v70
  let c1_i32_116 : BitVec 32 := 1#32
  let v144 : BitVec 32 := Scalar.muli v71 c1_i32_116
  let v145 : BitVec 32 := Scalar.addi c0_i32_117 v144
  v145.toNat
def k0_off3 (d0 : Dev nD) (c3_i32_126 : BitVec 32) (c0_i32_130 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v158 : BitVec 32 := Scalar.addi v19 c3_i32_126
  let c4_i32_127 : BitVec 32 := 4#32
  let v159 : BitVec 32 := Scalar.remsi v158 c4_i32_127
  let c8_i32_128 : BitVec 32 := 8#32
  let v160 : BitVec 32 := Scalar.muli v159 c8_i32_128
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_129 : BitVec 32 := 8#32
  let v161 : BitVec 32 := Scalar.addi v34 c8_i32_129
  let v162 : BitVec 32 := Scalar.addi v161 c0_i32_130
  let c8_i32_131 : BitVec 32 := 8#32
  let v163 : BitVec 32 := Scalar.remsi v162 c8_i32_131
  let c7_i32_145 : BitVec 32 := 7#32
  let v176 : BitVec 1 := Scalar.cmpi .eq v163 c7_i32_145
  let c3_i32_146 : BitVec 32 := 3#32
  let c6_i32_143 : BitVec 32 := 6#32
  let v174 : BitVec 1 := Scalar.cmpi .eq v163 c6_i32_143
  let c4_i32_144 : BitVec 32 := 4#32
  let c5_i32_141 : BitVec 32 := 5#32
  let v172 : BitVec 1 := Scalar.cmpi .eq v163 c5_i32_141
  let c7_i32_142 : BitVec 32 := 7#32
  let c4_i32_139 : BitVec 32 := 4#32
  let v170 : BitVec 1 := Scalar.cmpi .eq v163 c4_i32_139
  let c6_i32_140 : BitVec 32 := 6#32
  let c3_i32_137 : BitVec 32 := 3#32
  let v168 : BitVec 1 := Scalar.cmpi .eq v163 c3_i32_137
  let c5_i32_138 : BitVec 32 := 5#32
  let c2_i32_135 : BitVec 32 := 2#32
  let v166 : BitVec 1 := Scalar.cmpi .eq v163 c2_i32_135
  let c2_i32_136 : BitVec 32 := 2#32
  let c1_i32_132 : BitVec 32 := 1#32
  let v164 : BitVec 1 := Scalar.cmpi .eq v163 c1_i32_132
  let c1_i32_133 : BitVec 32 := 1#32
  let c0_i32_134 : BitVec 32 := 0#32
  let v165 : BitVec 32 := Scalar.select v164 c1_i32_133 c0_i32_134
  let v167 : BitVec 32 := Scalar.select v166 c2_i32_136 v165
  let v169 : BitVec 32 := Scalar.select v168 c5_i32_138 v167
  let v171 : BitVec 32 := Scalar.select v170 c6_i32_140 v169
  let v173 : BitVec 32 := Scalar.select v172 c7_i32_142 v171
  let v175 : BitVec 32 := Scalar.select v174 c4_i32_144 v173
  let v177 : BitVec 32 := Scalar.select v176 c3_i32_146 v175
  let v178 : BitVec 32 := Scalar.addi v160 v177
  let c32_i32_148 : BitVec 32 := 32#32
  let v180 : BitVec 32 := Scalar.muli v178 c32_i32_148
  let c0_i32_153 : BitVec 32 := 0#32
  ![v180.toNat, 0]
def k0_off3_at (r : Fin 23) : BitVec 32 × BitVec 32 :=
  if r.val < 11 then
    if r.val < 5 then
      if r.val < 2 then
        if r.val < 1 then
          (3#32, 0#32)
        else
          (1#32, 0#32)
      else
        if r.val < 3 then
          (2#32, 0#32)
        else
          if r.val < 4 then
            (0#32, 4294967295#32)
          else
            (0#32, 1#32)
    else
      if r.val < 8 then
        if r.val < 6 then
          (3#32, 4294967295#32)
        else
          if r.val < 7 then
            (3#32, 1#32)
          else
            (1#32, 4294967295#32)
      else
        if r.val < 9 then
          (1#32, 1#32)
        else
          if r.val < 10 then
            (2#32, 4294967295#32)
          else
            (2#32, 1#32)
  else
    if r.val < 17 then
      if r.val < 14 then
        if r.val < 12 then
          (0#32, 4294967294#32)
        else
          if r.val < 13 then
            (0#32, 2#32)
          else
            (3#32, 4294967294#32)
      else
        if r.val < 15 then
          (3#32, 2#32)
        else
          if r.val < 16 then
            (1#32, 4294967294#32)
          else
            (1#32, 2#32)
    else
      if r.val < 20 then
        if r.val < 18 then
          (2#32, 4294967294#32)
        else
          if r.val < 19 then
            (2#32, 2#32)
          else
            (0#32, 4294967293#32)
      else
        if r.val < 21 then
          (3#32, 4294967293#32)
        else
          if r.val < 22 then
            (1#32, 3#32)
          else
            (2#32, 3#32)
def k0_dev11 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v36 : BitVec 32 := Scalar.muli v19 c8_i32_16
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_15 : BitVec 32 := 1#32
  let v35 : BitVec 32 := Scalar.addi v34 c1_i32_15
  let c8_i32_17 : BitVec 32 := 8#32
  let v37 : BitVec 32 := Scalar.remsi v35 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_19 : BitVec 32 := 1#32
  let c0_i32_20 : BitVec 32 := 0#32
  let v39 : BitVec 32 := Scalar.select v38 c1_i32_19 c0_i32_20
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v36 v51
  let c1_i32_151 : BitVec 32 := 1#32
  let v181 : BitVec 32 := Scalar.muli v52 c1_i32_151
  let v182 : BitVec 32 := Scalar.addi c0_i32_152 v181
  v182.toNat
def k0_dev12 (d0 : Dev nD) : Nat :=
  let c0_i32_160 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_35 : BitVec 32 := 8#32
  let v55 : BitVec 32 := Scalar.muli v19 c8_i32_35
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_33 : BitVec 32 := 8#32
  let v53 : BitVec 32 := Scalar.addi v34 c8_i32_33
  let c1_i32_34 : BitVec 32 := 1#32
  let v54 : BitVec 32 := Scalar.subi v53 c1_i32_34
  let c8_i32_36 : BitVec 32 := 8#32
  let v56 : BitVec 32 := Scalar.remsi v54 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_38 : BitVec 32 := 1#32
  let c0_i32_39 : BitVec 32 := 0#32
  let v58 : BitVec 32 := Scalar.select v57 c1_i32_38 c0_i32_39
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v55 v70
  let c1_i32_159 : BitVec 32 := 1#32
  let v191 : BitVec 32 := Scalar.muli v71 c1_i32_159
  let v192 : BitVec 32 := Scalar.addi c0_i32_160 v191
  v192.toNat
def k0_dev13 (d0 : Dev nD) : Nat :=
  let c0_i32_195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v36 : BitVec 32 := Scalar.muli v19 c8_i32_16
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_15 : BitVec 32 := 1#32
  let v35 : BitVec 32 := Scalar.addi v34 c1_i32_15
  let c8_i32_17 : BitVec 32 := 8#32
  let v37 : BitVec 32 := Scalar.remsi v35 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_19 : BitVec 32 := 1#32
  let c0_i32_20 : BitVec 32 := 0#32
  let v39 : BitVec 32 := Scalar.select v38 c1_i32_19 c0_i32_20
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v36 v51
  let c1_i32_194 : BitVec 32 := 1#32
  let v228 : BitVec 32 := Scalar.muli v52 c1_i32_194
  let v229 : BitVec 32 := Scalar.addi c0_i32_195 v228
  v229.toNat
def k0_dev14 (d0 : Dev nD) : Nat :=
  let c0_i32_203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_35 : BitVec 32 := 8#32
  let v55 : BitVec 32 := Scalar.muli v19 c8_i32_35
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_33 : BitVec 32 := 8#32
  let v53 : BitVec 32 := Scalar.addi v34 c8_i32_33
  let c1_i32_34 : BitVec 32 := 1#32
  let v54 : BitVec 32 := Scalar.subi v53 c1_i32_34
  let c8_i32_36 : BitVec 32 := 8#32
  let v56 : BitVec 32 := Scalar.remsi v54 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_38 : BitVec 32 := 1#32
  let c0_i32_39 : BitVec 32 := 0#32
  let v58 : BitVec 32 := Scalar.select v57 c1_i32_38 c0_i32_39
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v55 v70
  let c1_i32_202 : BitVec 32 := 1#32
  let v238 : BitVec 32 := Scalar.muli v71 c1_i32_202
  let v239 : BitVec 32 := Scalar.addi c0_i32_203 v238
  v239.toNat
def k0_dev15 (d0 : Dev nD) : Nat :=
  let c0_i32_238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v36 : BitVec 32 := Scalar.muli v19 c8_i32_16
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_15 : BitVec 32 := 1#32
  let v35 : BitVec 32 := Scalar.addi v34 c1_i32_15
  let c8_i32_17 : BitVec 32 := 8#32
  let v37 : BitVec 32 := Scalar.remsi v35 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_19 : BitVec 32 := 1#32
  let c0_i32_20 : BitVec 32 := 0#32
  let v39 : BitVec 32 := Scalar.select v38 c1_i32_19 c0_i32_20
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v36 v51
  let c1_i32_237 : BitVec 32 := 1#32
  let v275 : BitVec 32 := Scalar.muli v52 c1_i32_237
  let v276 : BitVec 32 := Scalar.addi c0_i32_238 v275
  v276.toNat
def k0_dev16 (d0 : Dev nD) : Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_35 : BitVec 32 := 8#32
  let v55 : BitVec 32 := Scalar.muli v19 c8_i32_35
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_33 : BitVec 32 := 8#32
  let v53 : BitVec 32 := Scalar.addi v34 c8_i32_33
  let c1_i32_34 : BitVec 32 := 1#32
  let v54 : BitVec 32 := Scalar.subi v53 c1_i32_34
  let c8_i32_36 : BitVec 32 := 8#32
  let v56 : BitVec 32 := Scalar.remsi v54 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_38 : BitVec 32 := 1#32
  let c0_i32_39 : BitVec 32 := 0#32
  let v58 : BitVec 32 := Scalar.select v57 c1_i32_38 c0_i32_39
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v55 v70
  let c1_i32_245 : BitVec 32 := 1#32
  let v285 : BitVec 32 := Scalar.muli v71 c1_i32_245
  let v286 : BitVec 32 := Scalar.addi c0_i32_246 v285
  v286.toNat
def k0_dev17 (d0 : Dev nD) : Nat :=
  let c0_i32_280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v36 : BitVec 32 := Scalar.muli v19 c8_i32_16
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_15 : BitVec 32 := 1#32
  let v35 : BitVec 32 := Scalar.addi v34 c1_i32_15
  let c8_i32_17 : BitVec 32 := 8#32
  let v37 : BitVec 32 := Scalar.remsi v35 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_19 : BitVec 32 := 1#32
  let c0_i32_20 : BitVec 32 := 0#32
  let v39 : BitVec 32 := Scalar.select v38 c1_i32_19 c0_i32_20
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v36 v51
  let c1_i32_279 : BitVec 32 := 1#32
  let v322 : BitVec 32 := Scalar.muli v52 c1_i32_279
  let v323 : BitVec 32 := Scalar.addi c0_i32_280 v322
  v323.toNat
def k0_dev18 (d0 : Dev nD) : Nat :=
  let c0_i32_315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_35 : BitVec 32 := 8#32
  let v55 : BitVec 32 := Scalar.muli v19 c8_i32_35
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_33 : BitVec 32 := 8#32
  let v53 : BitVec 32 := Scalar.addi v34 c8_i32_33
  let c1_i32_34 : BitVec 32 := 1#32
  let v54 : BitVec 32 := Scalar.subi v53 c1_i32_34
  let c8_i32_36 : BitVec 32 := 8#32
  let v56 : BitVec 32 := Scalar.remsi v54 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_38 : BitVec 32 := 1#32
  let c0_i32_39 : BitVec 32 := 0#32
  let v58 : BitVec 32 := Scalar.select v57 c1_i32_38 c0_i32_39
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v55 v70
  let c1_i32_314 : BitVec 32 := 1#32
  let v359 : BitVec 32 := Scalar.muli v71 c1_i32_314
  let v360 : BitVec 32 := Scalar.addi c0_i32_315 v359
  v360.toNat
def k0_dev19 (d0 : Dev nD) : Nat :=
  let c0_i32_350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v36 : BitVec 32 := Scalar.muli v19 c8_i32_16
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_15 : BitVec 32 := 1#32
  let v35 : BitVec 32 := Scalar.addi v34 c1_i32_15
  let c8_i32_17 : BitVec 32 := 8#32
  let v37 : BitVec 32 := Scalar.remsi v35 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_19 : BitVec 32 := 1#32
  let c0_i32_20 : BitVec 32 := 0#32
  let v39 : BitVec 32 := Scalar.select v38 c1_i32_19 c0_i32_20
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v36 v51
  let c1_i32_349 : BitVec 32 := 1#32
  let v396 : BitVec 32 := Scalar.muli v52 c1_i32_349
  let v397 : BitVec 32 := Scalar.addi c0_i32_350 v396
  v397.toNat
def k0_dev20 (d0 : Dev nD) : Nat :=
  let c0_i32_385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_35 : BitVec 32 := 8#32
  let v55 : BitVec 32 := Scalar.muli v19 c8_i32_35
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_33 : BitVec 32 := 8#32
  let v53 : BitVec 32 := Scalar.addi v34 c8_i32_33
  let c1_i32_34 : BitVec 32 := 1#32
  let v54 : BitVec 32 := Scalar.subi v53 c1_i32_34
  let c8_i32_36 : BitVec 32 := 8#32
  let v56 : BitVec 32 := Scalar.remsi v54 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_38 : BitVec 32 := 1#32
  let c0_i32_39 : BitVec 32 := 0#32
  let v58 : BitVec 32 := Scalar.select v57 c1_i32_38 c0_i32_39
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v55 v70
  let c1_i32_384 : BitVec 32 := 1#32
  let v433 : BitVec 32 := Scalar.muli v71 c1_i32_384
  let v434 : BitVec 32 := Scalar.addi c0_i32_385 v433
  v434.toNat
def k0_dev21 (d0 : Dev nD) : Nat :=
  let c0_i32_420 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v36 : BitVec 32 := Scalar.muli v19 c8_i32_16
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_15 : BitVec 32 := 1#32
  let v35 : BitVec 32 := Scalar.addi v34 c1_i32_15
  let c8_i32_17 : BitVec 32 := 8#32
  let v37 : BitVec 32 := Scalar.remsi v35 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_19 : BitVec 32 := 1#32
  let c0_i32_20 : BitVec 32 := 0#32
  let v39 : BitVec 32 := Scalar.select v38 c1_i32_19 c0_i32_20
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v36 v51
  let c1_i32_419 : BitVec 32 := 1#32
  let v470 : BitVec 32 := Scalar.muli v52 c1_i32_419
  let v471 : BitVec 32 := Scalar.addi c0_i32_420 v470
  v471.toNat
def k0_dev22 (d0 : Dev nD) : Nat :=
  let c0_i32_455 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_35 : BitVec 32 := 8#32
  let v55 : BitVec 32 := Scalar.muli v19 c8_i32_35
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_33 : BitVec 32 := 8#32
  let v53 : BitVec 32 := Scalar.addi v34 c8_i32_33
  let c1_i32_34 : BitVec 32 := 1#32
  let v54 : BitVec 32 := Scalar.subi v53 c1_i32_34
  let c8_i32_36 : BitVec 32 := 8#32
  let v56 : BitVec 32 := Scalar.remsi v54 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_38 : BitVec 32 := 1#32
  let c0_i32_39 : BitVec 32 := 0#32
  let v58 : BitVec 32 := Scalar.select v57 c1_i32_38 c0_i32_39
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v55 v70
  let c1_i32_454 : BitVec 32 := 1#32
  let v507 : BitVec 32 := Scalar.muli v71 c1_i32_454
  let v508 : BitVec 32 := Scalar.addi c0_i32_455 v507
  v508.toNat
def k0_dev23 (d0 : Dev nD) : Nat :=
  let c0_i32_490 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v36 : BitVec 32 := Scalar.muli v19 c8_i32_16
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_15 : BitVec 32 := 1#32
  let v35 : BitVec 32 := Scalar.addi v34 c1_i32_15
  let c8_i32_17 : BitVec 32 := 8#32
  let v37 : BitVec 32 := Scalar.remsi v35 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_19 : BitVec 32 := 1#32
  let c0_i32_20 : BitVec 32 := 0#32
  let v39 : BitVec 32 := Scalar.select v38 c1_i32_19 c0_i32_20
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v36 v51
  let c1_i32_489 : BitVec 32 := 1#32
  let v544 : BitVec 32 := Scalar.muli v52 c1_i32_489
  let v545 : BitVec 32 := Scalar.addi c0_i32_490 v544
  v545.toNat
def k0_dev24 (d0 : Dev nD) : Nat :=
  let c0_i32_525 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_35 : BitVec 32 := 8#32
  let v55 : BitVec 32 := Scalar.muli v19 c8_i32_35
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_33 : BitVec 32 := 8#32
  let v53 : BitVec 32 := Scalar.addi v34 c8_i32_33
  let c1_i32_34 : BitVec 32 := 1#32
  let v54 : BitVec 32 := Scalar.subi v53 c1_i32_34
  let c8_i32_36 : BitVec 32 := 8#32
  let v56 : BitVec 32 := Scalar.remsi v54 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_38 : BitVec 32 := 1#32
  let c0_i32_39 : BitVec 32 := 0#32
  let v58 : BitVec 32 := Scalar.select v57 c1_i32_38 c0_i32_39
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v55 v70
  let c1_i32_524 : BitVec 32 := 1#32
  let v581 : BitVec 32 := Scalar.muli v71 c1_i32_524
  let v582 : BitVec 32 := Scalar.addi c0_i32_525 v581
  v582.toNat
def k0_dev25 (d0 : Dev nD) : Nat :=
  let c0_i32_559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v36 : BitVec 32 := Scalar.muli v19 c8_i32_16
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_15 : BitVec 32 := 1#32
  let v35 : BitVec 32 := Scalar.addi v34 c1_i32_15
  let c8_i32_17 : BitVec 32 := 8#32
  let v37 : BitVec 32 := Scalar.remsi v35 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_19 : BitVec 32 := 1#32
  let c0_i32_20 : BitVec 32 := 0#32
  let v39 : BitVec 32 := Scalar.select v38 c1_i32_19 c0_i32_20
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v36 v51
  let c1_i32_558 : BitVec 32 := 1#32
  let v618 : BitVec 32 := Scalar.muli v52 c1_i32_558
  let v619 : BitVec 32 := Scalar.addi c0_i32_559 v618
  v619.toNat
def k0_dev26 (d0 : Dev nD) : Nat :=
  let c0_i32_594 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_35 : BitVec 32 := 8#32
  let v55 : BitVec 32 := Scalar.muli v19 c8_i32_35
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_33 : BitVec 32 := 8#32
  let v53 : BitVec 32 := Scalar.addi v34 c8_i32_33
  let c1_i32_34 : BitVec 32 := 1#32
  let v54 : BitVec 32 := Scalar.subi v53 c1_i32_34
  let c8_i32_36 : BitVec 32 := 8#32
  let v56 : BitVec 32 := Scalar.remsi v54 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_38 : BitVec 32 := 1#32
  let c0_i32_39 : BitVec 32 := 0#32
  let v58 : BitVec 32 := Scalar.select v57 c1_i32_38 c0_i32_39
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v55 v70
  let c1_i32_593 : BitVec 32 := 1#32
  let v655 : BitVec 32 := Scalar.muli v71 c1_i32_593
  let v656 : BitVec 32 := Scalar.addi c0_i32_594 v655
  v656.toNat
def k0_dev27 (d0 : Dev nD) : Nat :=
  let c0_i32_628 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v36 : BitVec 32 := Scalar.muli v19 c8_i32_16
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_15 : BitVec 32 := 1#32
  let v35 : BitVec 32 := Scalar.addi v34 c1_i32_15
  let c8_i32_17 : BitVec 32 := 8#32
  let v37 : BitVec 32 := Scalar.remsi v35 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_19 : BitVec 32 := 1#32
  let c0_i32_20 : BitVec 32 := 0#32
  let v39 : BitVec 32 := Scalar.select v38 c1_i32_19 c0_i32_20
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v36 v51
  let c1_i32_627 : BitVec 32 := 1#32
  let v692 : BitVec 32 := Scalar.muli v52 c1_i32_627
  let v693 : BitVec 32 := Scalar.addi c0_i32_628 v692
  v693.toNat
def k0_dev28 (d0 : Dev nD) : Nat :=
  let c0_i32_663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_35 : BitVec 32 := 8#32
  let v55 : BitVec 32 := Scalar.muli v19 c8_i32_35
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_33 : BitVec 32 := 8#32
  let v53 : BitVec 32 := Scalar.addi v34 c8_i32_33
  let c1_i32_34 : BitVec 32 := 1#32
  let v54 : BitVec 32 := Scalar.subi v53 c1_i32_34
  let c8_i32_36 : BitVec 32 := 8#32
  let v56 : BitVec 32 := Scalar.remsi v54 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_38 : BitVec 32 := 1#32
  let c0_i32_39 : BitVec 32 := 0#32
  let v58 : BitVec 32 := Scalar.select v57 c1_i32_38 c0_i32_39
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v55 v70
  let c1_i32_662 : BitVec 32 := 1#32
  let v729 : BitVec 32 := Scalar.muli v71 c1_i32_662
  let v730 : BitVec 32 := Scalar.addi c0_i32_663 v729
  v730.toNat
def k0_dev29 (d0 : Dev nD) : Nat :=
  let c0_i32_697 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v36 : BitVec 32 := Scalar.muli v19 c8_i32_16
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_15 : BitVec 32 := 1#32
  let v35 : BitVec 32 := Scalar.addi v34 c1_i32_15
  let c8_i32_17 : BitVec 32 := 8#32
  let v37 : BitVec 32 := Scalar.remsi v35 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_19 : BitVec 32 := 1#32
  let c0_i32_20 : BitVec 32 := 0#32
  let v39 : BitVec 32 := Scalar.select v38 c1_i32_19 c0_i32_20
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v36 v51
  let c1_i32_696 : BitVec 32 := 1#32
  let v766 : BitVec 32 := Scalar.muli v52 c1_i32_696
  let v767 : BitVec 32 := Scalar.addi c0_i32_697 v766
  v767.toNat
def k0_dev30 (d0 : Dev nD) : Nat :=
  let c0_i32_732 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_35 : BitVec 32 := 8#32
  let v55 : BitVec 32 := Scalar.muli v19 c8_i32_35
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_33 : BitVec 32 := 8#32
  let v53 : BitVec 32 := Scalar.addi v34 c8_i32_33
  let c1_i32_34 : BitVec 32 := 1#32
  let v54 : BitVec 32 := Scalar.subi v53 c1_i32_34
  let c8_i32_36 : BitVec 32 := 8#32
  let v56 : BitVec 32 := Scalar.remsi v54 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_38 : BitVec 32 := 1#32
  let c0_i32_39 : BitVec 32 := 0#32
  let v58 : BitVec 32 := Scalar.select v57 c1_i32_38 c0_i32_39
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v55 v70
  let c1_i32_731 : BitVec 32 := 1#32
  let v803 : BitVec 32 := Scalar.muli v71 c1_i32_731
  let v804 : BitVec 32 := Scalar.addi c0_i32_732 v803
  v804.toNat
def k0_dev31 (d0 : Dev nD) : Nat :=
  let c0_i32_766 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v36 : BitVec 32 := Scalar.muli v19 c8_i32_16
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_15 : BitVec 32 := 1#32
  let v35 : BitVec 32 := Scalar.addi v34 c1_i32_15
  let c8_i32_17 : BitVec 32 := 8#32
  let v37 : BitVec 32 := Scalar.remsi v35 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_19 : BitVec 32 := 1#32
  let c0_i32_20 : BitVec 32 := 0#32
  let v39 : BitVec 32 := Scalar.select v38 c1_i32_19 c0_i32_20
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v36 v51
  let c1_i32_765 : BitVec 32 := 1#32
  let v840 : BitVec 32 := Scalar.muli v52 c1_i32_765
  let v841 : BitVec 32 := Scalar.addi c0_i32_766 v840
  v841.toNat
def k0_dev32 (d0 : Dev nD) : Nat :=
  let c0_i32_801 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_35 : BitVec 32 := 8#32
  let v55 : BitVec 32 := Scalar.muli v19 c8_i32_35
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_33 : BitVec 32 := 8#32
  let v53 : BitVec 32 := Scalar.addi v34 c8_i32_33
  let c1_i32_34 : BitVec 32 := 1#32
  let v54 : BitVec 32 := Scalar.subi v53 c1_i32_34
  let c8_i32_36 : BitVec 32 := 8#32
  let v56 : BitVec 32 := Scalar.remsi v54 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_38 : BitVec 32 := 1#32
  let c0_i32_39 : BitVec 32 := 0#32
  let v58 : BitVec 32 := Scalar.select v57 c1_i32_38 c0_i32_39
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v55 v70
  let c1_i32_800 : BitVec 32 := 1#32
  let v877 : BitVec 32 := Scalar.muli v71 c1_i32_800
  let v878 : BitVec 32 := Scalar.addi c0_i32_801 v877
  v878.toNat
def k0_dev33 (d0 : Dev nD) : Nat :=
  let c0_i32_834 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v36 : BitVec 32 := Scalar.muli v19 c8_i32_16
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_15 : BitVec 32 := 1#32
  let v35 : BitVec 32 := Scalar.addi v34 c1_i32_15
  let c8_i32_17 : BitVec 32 := 8#32
  let v37 : BitVec 32 := Scalar.remsi v35 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_19 : BitVec 32 := 1#32
  let c0_i32_20 : BitVec 32 := 0#32
  let v39 : BitVec 32 := Scalar.select v38 c1_i32_19 c0_i32_20
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v36 v51
  let c1_i32_833 : BitVec 32 := 1#32
  let v914 : BitVec 32 := Scalar.muli v52 c1_i32_833
  let v915 : BitVec 32 := Scalar.addi c0_i32_834 v914
  v915.toNat
def k0_dev34 (d0 : Dev nD) : Nat :=
  let c0_i32_874 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_16 : BitVec 32 := 8#32
  let v36 : BitVec 32 := Scalar.muli v19 c8_i32_16
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c1_i32_15 : BitVec 32 := 1#32
  let v35 : BitVec 32 := Scalar.addi v34 c1_i32_15
  let c8_i32_17 : BitVec 32 := 8#32
  let v37 : BitVec 32 := Scalar.remsi v35 c8_i32_17
  let c7_i32_31 : BitVec 32 := 7#32
  let v50 : BitVec 1 := Scalar.cmpi .eq v37 c7_i32_31
  let c3_i32_32 : BitVec 32 := 3#32
  let c6_i32_29 : BitVec 32 := 6#32
  let v48 : BitVec 1 := Scalar.cmpi .eq v37 c6_i32_29
  let c4_i32_30 : BitVec 32 := 4#32
  let c5_i32_27 : BitVec 32 := 5#32
  let v46 : BitVec 1 := Scalar.cmpi .eq v37 c5_i32_27
  let c7_i32_28 : BitVec 32 := 7#32
  let c4_i32_25 : BitVec 32 := 4#32
  let v44 : BitVec 1 := Scalar.cmpi .eq v37 c4_i32_25
  let c6_i32_26 : BitVec 32 := 6#32
  let c3_i32_23 : BitVec 32 := 3#32
  let v42 : BitVec 1 := Scalar.cmpi .eq v37 c3_i32_23
  let c5_i32_24 : BitVec 32 := 5#32
  let c2_i32_21 : BitVec 32 := 2#32
  let v40 : BitVec 1 := Scalar.cmpi .eq v37 c2_i32_21
  let c2_i32_22 : BitVec 32 := 2#32
  let c1_i32_18 : BitVec 32 := 1#32
  let v38 : BitVec 1 := Scalar.cmpi .eq v37 c1_i32_18
  let c1_i32_19 : BitVec 32 := 1#32
  let c0_i32_20 : BitVec 32 := 0#32
  let v39 : BitVec 32 := Scalar.select v38 c1_i32_19 c0_i32_20
  let v41 : BitVec 32 := Scalar.select v40 c2_i32_22 v39
  let v43 : BitVec 32 := Scalar.select v42 c5_i32_24 v41
  let v45 : BitVec 32 := Scalar.select v44 c6_i32_26 v43
  let v47 : BitVec 32 := Scalar.select v46 c7_i32_28 v45
  let v49 : BitVec 32 := Scalar.select v48 c4_i32_30 v47
  let v51 : BitVec 32 := Scalar.select v50 c3_i32_32 v49
  let v52 : BitVec 32 := Scalar.addi v36 v51
  let c1_i32_873 : BitVec 32 := 1#32
  let v957 : BitVec 32 := Scalar.muli v52 c1_i32_873
  let v958 : BitVec 32 := Scalar.addi c0_i32_874 v957
  v958.toNat
def k0_dev35 (d0 : Dev nD) : Nat :=
  let c0_i32_921 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_35 : BitVec 32 := 8#32
  let v55 : BitVec 32 := Scalar.muli v19 c8_i32_35
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_33 : BitVec 32 := 8#32
  let v53 : BitVec 32 := Scalar.addi v34 c8_i32_33
  let c1_i32_34 : BitVec 32 := 1#32
  let v54 : BitVec 32 := Scalar.subi v53 c1_i32_34
  let c8_i32_36 : BitVec 32 := 8#32
  let v56 : BitVec 32 := Scalar.remsi v54 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_38 : BitVec 32 := 1#32
  let c0_i32_39 : BitVec 32 := 0#32
  let v58 : BitVec 32 := Scalar.select v57 c1_i32_38 c0_i32_39
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v55 v70
  let c1_i32_920 : BitVec 32 := 1#32
  let v1006 : BitVec 32 := Scalar.muli v71 c1_i32_920
  let v1007 : BitVec 32 := Scalar.addi c0_i32_921 v1006
  v1007.toNat
def k0_dev36 (d0 : Dev nD) : Nat :=
  let c0_i32_962 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c8_i32_35 : BitVec 32 := 8#32
  let v55 : BitVec 32 := Scalar.muli v19 c8_i32_35
  let c8_i32_5 : BitVec 32 := 8#32
  let v20 : BitVec 32 := Scalar.remsi v2 c8_i32_5
  let c7_i32_13 : BitVec 32 := 7#32
  let v33 : BitVec 1 := Scalar.cmpi .eq v20 c7_i32_13
  let c5_i32_14 : BitVec 32 := 5#32
  let c6_i32_11 : BitVec 32 := 6#32
  let v31 : BitVec 1 := Scalar.cmpi .eq v20 c6_i32_11
  let c4_i32_12 : BitVec 32 := 4#32
  let c5_i32 : BitVec 32 := 5#32
  let v29 : BitVec 1 := Scalar.cmpi .eq v20 c5_i32
  let c3_i32_10 : BitVec 32 := 3#32
  let c4_i32 : BitVec 32 := 4#32
  let v27 : BitVec 1 := Scalar.cmpi .eq v20 c4_i32
  let c6_i32 : BitVec 32 := 6#32
  let c3_i32 : BitVec 32 := 3#32
  let v25 : BitVec 1 := Scalar.cmpi .eq v20 c3_i32
  let c7_i32 : BitVec 32 := 7#32
  let c2_i32 : BitVec 32 := 2#32
  let v23 : BitVec 1 := Scalar.cmpi .eq v20 c2_i32
  let c2_i32_9 : BitVec 32 := 2#32
  let c1_i32_6 : BitVec 32 := 1#32
  let v21 : BitVec 1 := Scalar.cmpi .eq v20 c1_i32_6
  let c1_i32_7 : BitVec 32 := 1#32
  let c0_i32_8 : BitVec 32 := 0#32
  let v22 : BitVec 32 := Scalar.select v21 c1_i32_7 c0_i32_8
  let v24 : BitVec 32 := Scalar.select v23 c2_i32_9 v22
  let v26 : BitVec 32 := Scalar.select v25 c7_i32 v24
  let v28 : BitVec 32 := Scalar.select v27 c6_i32 v26
  let v30 : BitVec 32 := Scalar.select v29 c3_i32_10 v28
  let v32 : BitVec 32 := Scalar.select v31 c4_i32_12 v30
  let v34 : BitVec 32 := Scalar.select v33 c5_i32_14 v32
  let c8_i32_33 : BitVec 32 := 8#32
  let v53 : BitVec 32 := Scalar.addi v34 c8_i32_33
  let c1_i32_34 : BitVec 32 := 1#32
  let v54 : BitVec 32 := Scalar.subi v53 c1_i32_34
  let c8_i32_36 : BitVec 32 := 8#32
  let v56 : BitVec 32 := Scalar.remsi v54 c8_i32_36
  let c7_i32_50 : BitVec 32 := 7#32
  let v69 : BitVec 1 := Scalar.cmpi .eq v56 c7_i32_50
  let c3_i32_51 : BitVec 32 := 3#32
  let c6_i32_48 : BitVec 32 := 6#32
  let v67 : BitVec 1 := Scalar.cmpi .eq v56 c6_i32_48
  let c4_i32_49 : BitVec 32 := 4#32
  let c5_i32_46 : BitVec 32 := 5#32
  let v65 : BitVec 1 := Scalar.cmpi .eq v56 c5_i32_46
  let c7_i32_47 : BitVec 32 := 7#32
  let c4_i32_44 : BitVec 32 := 4#32
  let v63 : BitVec 1 := Scalar.cmpi .eq v56 c4_i32_44
  let c6_i32_45 : BitVec 32 := 6#32
  let c3_i32_42 : BitVec 32 := 3#32
  let v61 : BitVec 1 := Scalar.cmpi .eq v56 c3_i32_42
  let c5_i32_43 : BitVec 32 := 5#32
  let c2_i32_40 : BitVec 32 := 2#32
  let v59 : BitVec 1 := Scalar.cmpi .eq v56 c2_i32_40
  let c2_i32_41 : BitVec 32 := 2#32
  let c1_i32_37 : BitVec 32 := 1#32
  let v57 : BitVec 1 := Scalar.cmpi .eq v56 c1_i32_37
  let c1_i32_38 : BitVec 32 := 1#32
  let c0_i32_39 : BitVec 32 := 0#32
  let v58 : BitVec 32 := Scalar.select v57 c1_i32_38 c0_i32_39
  let v60 : BitVec 32 := Scalar.select v59 c2_i32_41 v58
  let v62 : BitVec 32 := Scalar.select v61 c5_i32_43 v60
  let v64 : BitVec 32 := Scalar.select v63 c6_i32_45 v62
  let v66 : BitVec 32 := Scalar.select v65 c7_i32_47 v64
  let v68 : BitVec 32 := Scalar.select v67 c4_i32_49 v66
  let v70 : BitVec 32 := Scalar.select v69 c3_i32_51 v68
  let v71 : BitVec 32 := Scalar.addi v55 v70
  let c1_i32_961 : BitVec 32 := 1#32
  let v1049 : BitVec 32 := Scalar.muli v71 c1_i32_961
  let v1050 : BitVec 32 := Scalar.addi c0_i32_962 v1049
  v1050.toNat
abbrev stage0_0 : Fin 1 → Memref sig .tc .vmem S32x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Tables.lean ====
/- The tables of the all-gather: on a mesh of four planes of eight devices, which device each signal and each transfer
   of a device goes to, which device's rows a transfer carries, from which earlier arrival its source comes, and in
   which order the arrivals are awaited. Every fact here is decided over the thirty-two devices. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

namespace Cert.AllGather

open Cert.KernelIdeal Cert.KernelIdeal.Gen
open Idealize.ShloMosaic

/-- The ring position of the device numbered `q` in its plane, -/
def ringPos (q : ℕ) : ℕ := [0, 1, 2, 7, 6, 3, 4, 5].getD q 0
/-- and the number in its plane of the device at ring position `p`. -/
def planeNo (p : ℕ) : ℕ := [0, 1, 2, 5, 6, 7, 4, 3].getD p 0

set_option backward.proofsInPublic true in
/-- The device `dz` planes up from `d` and `dc` positions along the ring. -/
def hop (d : Dev nD) (dz dc : ℕ) : Dev nD :=
  ⟨((d.val / 8 + dz) % 4 * 8 + planeNo ((ringPos (d.val % 8) + dc) % 8)) % 32, Nat.mod_lt _ (by decide)⟩

/-- The device that signal `k` of device `c` goes to: its left and right ring neighbours, then its three plane peers. -/
def sgt (k : Fin 5) (c : Dev nD) : Dev nD := hop c ([0, 0, 1, 2, 3].getD k.val 0) ([7, 1, 0, 0, 0].getD k.val 0)

/-- The device that transfer `t` of device `c` goes to. -/
def tgt (t : Fin 31) (c : Dev nD) : Dev nD :=
  hop c ([1, 2, 3, 0, 0, 0, 0, 0, 0, 0, 0, 0, 0, 0, 0, 0, 0, 0, 0, 0, 0, 0, 0, 0, 0, 0, 0, 0, 0, 0, 0].getD t.val 0)
    ([0, 0, 0, 1, 7, 1, 7, 1, 7, 1, 7, 1, 7, 1, 7, 1, 7, 1, 7, 1, 7, 1, 7, 1, 7, 1, 7, 1, 1, 7, 7].getD t.val 0)

/-- The device that transfer `t` arriving at `c` comes from. -/
def frm (t : Fin 31) (c : Dev nD) : Dev nD :=
  hop c ([3, 2, 1, 0, 0, 0, 0, 0, 0, 0, 0, 0, 0, 0, 0, 0, 0, 0, 0, 0, 0, 0, 0, 0, 0, 0, 0, 0, 0, 0, 0].getD t.val 0)
    ([0, 0, 0, 7, 1, 7, 1, 7, 1, 7, 1, 7, 1, 7, 1, 7, 1, 7, 1, 7, 1, 7, 1, 7, 1, 7, 1, 7, 7, 1, 1].getD t.val 0)

/-- The device whose rows transfer `t` of device `c` carries. -/
def org (t : Fin 31) (c : Dev nD) : Dev nD :=
  hop c ([0, 0, 0, 0, 0, 3, 3, 1, 1, 2, 2, 0, 0, 3, 3, 1, 1, 2, 2, 0, 0, 3, 3, 1, 1, 2, 2, 0, 3, 1, 2].getD t.val 0)
    ([0, 0, 0, 0, 0, 0, 0, 0, 0, 0, 0, 7, 1, 7, 1, 7, 1, 7, 1, 6, 2, 6, 2, 6, 2, 6, 2, 5, 5, 3, 3].getD t.val 0)

/-- A row block as device `c` comes by it: its own (`none`), or the one that transfer `t` brings it (`some t`). -/
abbrev Slot : Type := Option (Fin 31)

/-- The device whose rows that block is. -/
def owner (c : Dev nD) : Slot → Dev nD
  | none => c
  | some t => org t (frm t c)

/-- Where a device has the source of its transfer `t` from. -/
def srcOf (t : Fin 31) : Slot :=
  [none, none, none, none, none, some 0, some 0, some 2, some 2, some 1, some 1, some 3, some 4, some 5, some 6, some 7,
    some 8, some 9, some 10, some 11, some 12, some 13, some 14, some 15, some 16, some 17, some 18, some 19, some 21,
    some 24, some 26].getD t.val none

/-- The place of arrival `t` in the order in which a device awaits its arrivals. -/
def rank (t : Fin 31) : ℕ :=
  [0, 2, 1, 3, 4, 5, 6, 7, 8, 9, 10, 11, 12, 13, 14, 15, 16, 17, 18, 19, 20, 21, 22, 23, 24, 25, 26, 27, 29, 28, 30].getD t.val 0

/-- Which of its signals a device uses to let the sender of its arrival `t` in. -/
def bk (t : Fin 31) : Fin 5 :=
  [4, 3, 2, 0, 1, 0, 1, 0, 1, 0, 1, 0, 1, 0, 1, 0, 1, 0, 1, 0, 1, 0, 1, 0, 1, 0, 1, 0, 0, 1, 1].getD t.val 0

/-- The number of transfer `t`'s sending semaphore -/
def sndNo (t : Fin 31) : ℕ :=
  [3, 4, 5, 9, 37, 10, 38, 11, 39, 12, 40, 13, 41, 14, 42, 15, 43, 16, 44, 17, 45, 18, 46, 19, 47, 20, 48, 21, 22, 49, 50].getD t.val 3
/-- and of its receiving one. -/
def rcvNo (t : Fin 31) : ℕ :=
  [6, 7, 8, 23, 51, 24, 52, 25, 53, 26, 54, 27, 55, 28, 56, 29, 57, 30, 58, 31, 59, 32, 60, 33, 61, 34, 62, 35, 36, 63, 64].getD t.val 6

theorem sndNo_lt : ∀ t, sndNo t < 65 := by decide
theorem rcvNo_lt : ∀ t, rcvNo t < 65 := by decide

set_option backward.proofsInPublic true in
def ssem (t : Fin 31) : DmaSem sig := ⟨sndNo t, sndNo_lt t⟩
set_option backward.proofsInPublic true in
def rsem (t : Fin 31) : DmaSem sig := ⟨rcvNo t, rcvNo_lt t⟩

/-- Which transfer a semaphore serves, and at which end (`true` the receiving one). -/
def semIx (n : ℕ) : Option (Bool × Fin 31) :=
  [none, none, none, some (false, 0), some (false, 1), some (false, 2), some (true, 0), some (true, 1), some (true, 2),
    some (false, 3), some (false, 5), some (false, 7), some (false, 9), some (false, 11), some (false, 13), some (false, 15),
    some (false, 17), some (false, 19), some (false, 21), some (false, 23), some (false, 25), some (false, 27), some (false, 28),
    some (true, 3), some (true, 5), some (true, 7), some (true, 9), some (true, 11), some (true, 13), some (true, 15),
    some (true, 17), some (true, 19), some (true, 21), some (true, 23), some (true, 25), some (true, 27), some (true, 28),
    some (false, 4), some (false, 6), some (false, 8), some (false, 10), some (false, 12), some (false, 14), some (false, 16),
    some (false, 18), some (false, 20), some (false, 22), some (false, 24), some (false, 26), some (false, 29), some (false, 30),
    some (true, 4), some (true, 6), some (true, 8), some (true, 10), some (true, 12), some (true, 14), some (true, 16),
    some (true, 18), some (true, 20), some (true, 22), some (true, 24), some (true, 26), some (true, 29), some (true, 30)].getD n none

theorem semIx_ssem : ∀ t, semIx (ssem t).val = some (false, t) := by decide
theorem semIx_rsem : ∀ t, semIx (rsem t).val = some (true, t) := by decide
theorem ssem_inj {t t' : Fin 31} (h : ssem t = ssem t') : t = t' := by
  have := semIx_ssem t; rw [h, semIx_ssem] at this; simpa using this.symm
theorem rsem_inj {t t' : Fin 31} (h : rsem t = rsem t') : t = t' := by
  have := semIx_rsem t; rw [h, semIx_rsem] at this; simpa using this.symm
theorem ssem_ne_rsem (t t' : Fin 31) : ssem t ≠ rsem t' := fun h => by
  have := semIx_ssem t; rw [h, semIx_rsem] at this; simp at this

theorem tgt_frm : ∀ t c, tgt t (frm t c) = c := by decide +kernel
theorem frm_tgt : ∀ t c, frm t (tgt t c) = c := by decide +kernel
theorem owner_tgt (t : Fin 31) (c : Dev nD) : owner (tgt t c) (some t) = org t c := by
  show org t (frm t (tgt t c)) = org t c; rw [frm_tgt]
/-- The source of a transfer is the block its device came by there. -/
theorem owner_srcOf : ∀ c t, owner c (srcOf t) = org t c := by decide +kernel
theorem owner_inj : ∀ c, Function.Injective (owner c) := by decide +kernel
/-- Each signal's inverse, as another signal. -/
def sback (k : Fin 5) : Fin 5 := [1, 0, 4, 3, 2].getD k.val 0
theorem sgt_sback : ∀ k c, sgt k (sgt (sback k) c) = c := by decide +kernel
theorem sback_sgt : ∀ k c, sgt (sback k) (sgt k c) = c := by decide +kernel
/-- The device let in by signal `bk t` is the one that sends `t` back. -/
theorem tgt_sgt : ∀ t c, tgt t (sgt (bk t) c) = c := by decide +kernel
theorem rank_lt : ∀ t, rank t < 31 := by decide
theorem rank_inj : ∀ t t', rank t = rank t' → t = t' := by decide

/-- The five signals of the printed program. -/
theorem sdev0 : ∀ c : Dev nD, (⟨k0_dev1 c, k0_dev1_lt c⟩ : Dev nD) = sgt 0 c := by decide +kernel
theorem sdev1 : ∀ c : Dev nD, (⟨k0_dev2 c, k0_dev2_lt c⟩ : Dev nD) = sgt 1 c := by decide +kernel
theorem sdev2 : ∀ c : Dev nD, (⟨k0_dev3 c, k0_dev3_lt c⟩ : Dev nD) = sgt 2 c := by decide +kernel
theorem sdev3 : ∀ c : Dev nD, (⟨k0_dev4 c, k0_dev4_lt c⟩ : Dev nD) = sgt 3 c := by decide +kernel
theorem sdev4 : ∀ c : Dev nD, (⟨k0_dev5 c, k0_dev5_lt c⟩ : Dev nD) = sgt 4 c := by decide +kernel

/-- The targets of its transfers, in the order in which it starts them. -/
theorem tdev0 : ∀ c : Dev nD, (⟨k0_dev6 c, k0_dev6_lt c⟩ : Dev nD) = tgt 0 c := by decide +kernel
theorem tdev1 : ∀ c : Dev nD, (⟨k0_dev7 c, k0_dev7_lt c⟩ : Dev nD) = tgt 1 c := by decide +kernel
theorem tdev2 : ∀ c : Dev nD, (⟨k0_dev8 c, k0_dev8_lt c⟩ : Dev nD) = tgt 2 c := by decide +kernel
theorem tdev3 : ∀ c : Dev nD, (⟨k0_dev9 c, k0_dev9_lt c⟩ : Dev nD) = tgt 3 c := by decide +kernel
theorem tdev4 : ∀ c : Dev nD, (⟨k0_dev10 c, k0_dev10_lt c⟩ : Dev nD) = tgt 4 c := by decide +kernel
theorem tdev5 : ∀ c : Dev nD, (⟨k0_dev11 c, k0_dev11_lt c⟩ : Dev nD) = tgt 5 c := by decide +kernel
theorem tdev6 : ∀ c : Dev nD, (⟨k0_dev12 c, k0_dev12_lt c⟩ : Dev nD) = tgt 6 c := by decide +kernel
theorem tdev7 : ∀ c : Dev nD, (⟨k0_dev13 c, k0_dev13_lt c⟩ : Dev nD) = tgt 7 c := by decide +kernel
theorem tdev8 : ∀ c : Dev nD, (⟨k0_dev14 c, k0_dev14_lt c⟩ : Dev nD) = tgt 8 c := by decide +kernel
theorem tdev9 : ∀ c : Dev nD, (⟨k0_dev15 c, k0_dev15_lt c⟩ : Dev nD) = tgt 9 c := by decide +kernel
theorem tdev10 : ∀ c : Dev nD, (⟨k0_dev16 c, k0_dev16_lt c⟩ : Dev nD) = tgt 10 c := by decide +kernel
theorem tdev11 : ∀ c : Dev nD, (⟨k0_dev17 c, k0_dev17_lt c⟩ : Dev nD) = tgt 11 c := by decide +kernel
theorem tdev12 : ∀ c : Dev nD, (⟨k0_dev18 c, k0_dev18_lt c⟩ : Dev nD) = tgt 12 c := by decide +kernel
theorem tdev13 : ∀ c : Dev nD, (⟨k0_dev19 c, k0_dev19_lt c⟩ : Dev nD) = tgt 13 c := by decide +kernel
theorem tdev14 : ∀ c : Dev nD, (⟨k0_dev20 c, k0_dev20_lt c⟩ : Dev nD) = tgt 14 c := by decide +kernel
theorem tdev15 : ∀ c : Dev nD, (⟨k0_dev21 c, k0_dev21_lt c⟩ : Dev nD) = tgt 15 c := by decide +kernel
theorem tdev16 : ∀ c : Dev nD, (⟨k0_dev22 c, k0_dev22_lt c⟩ : Dev nD) = tgt 16 c := by decide +kernel
theorem tdev17 : ∀ c : Dev nD, (⟨k0_dev23 c, k0_dev23_lt c⟩ : Dev nD) = tgt 17 c := by decide +kernel
theorem tdev18 : ∀ c : Dev nD, (⟨k0_dev24 c, k0_dev24_lt c⟩ : Dev nD) = tgt 18 c := by decide +kernel
theorem tdev19 : ∀ c : Dev nD, (⟨k0_dev25 c, k0_dev25_lt c⟩ : Dev nD) = tgt 19 c := by decide +kernel
theorem tdev20 : ∀ c : Dev nD, (⟨k0_dev26 c, k0_dev26_lt c⟩ : Dev nD) = tgt 20 c := by decide +kernel
theorem tdev21 : ∀ c : Dev nD, (⟨k0_dev27 c, k0_dev27_lt c⟩ : Dev nD) = tgt 21 c := by decide +kernel
theorem tdev22 : ∀ c : Dev nD, (⟨k0_dev28 c, k0_dev28_lt c⟩ : Dev nD) = tgt 22 c := by decide +kernel
theorem tdev23 : ∀ c : Dev nD, (⟨k0_dev29 c, k0_dev29_lt c⟩ : Dev nD) = tgt 23 c := by decide +kernel
theorem tdev24 : ∀ c : Dev nD, (⟨k0_dev30 c, k0_dev30_lt c⟩ : Dev nD) = tgt 24 c := by decide +kernel
theorem tdev25 : ∀ c : Dev nD, (⟨k0_dev31 c, k0_dev31_lt c⟩ : Dev nD) = tgt 25 c := by decide +kernel
theorem tdev26 : ∀ c : Dev nD, (⟨k0_dev32 c, k0_dev32_lt c⟩ : Dev nD) = tgt 26 c := by decide +kernel
theorem tdev27 : ∀ c : Dev nD, (⟨k0_dev33 c, k0_dev33_lt c⟩ : Dev nD) = tgt 27 c := by decide +kernel
theorem tdev28 : ∀ c : Dev nD, (⟨k0_dev34 c, k0_dev34_lt c⟩ : Dev nD) = tgt 28 c := by decide +kernel
theorem tdev29 : ∀ c : Dev nD, (⟨k0_dev35 c, k0_dev35_lt c⟩ : Dev nD) = tgt 29 c := by decide +kernel
theorem tdev30 : ∀ c : Dev nD, (⟨k0_dev36 c, k0_dev36_lt c⟩ : Dev nD) = tgt 30 c := by decide +kernel
/-- The rows the printed program computes for the source of each relayed transfer. -/
theorem toff5 : ∀ c : Dev nD, k0_off3 c 3#32 0#32 = ![32 * (org 5 c).val, 0] := by decide +kernel
theorem toff6 : ∀ c : Dev nD, k0_off3 c 3#32 0#32 = ![32 * (org 6 c).val, 0] := by decide +kernel
theorem toff7 : ∀ c : Dev nD, k0_off3 c 1#32 0#32 = ![32 * (org 7 c).val, 0] := by decide +kernel
theorem toff8 : ∀ c : Dev nD, k0_off3 c 1#32 0#32 = ![32 * (org 8 c).val, 0] := by decide +kernel
theorem toff9 : ∀ c : Dev nD, k0_off3 c 2#32 0#32 = ![32 * (org 9 c).val, 0] := by decide +kernel
theorem toff10 : ∀ c : Dev nD, k0_off3 c 2#32 0#32 = ![32 * (org 10 c).val, 0] := by decide +kernel
theorem toff11 : ∀ c : Dev nD, k0_off3 c 0#32 4294967295#32 = ![32 * (org 11 c).val, 0] := by decide +kernel
theorem toff12 : ∀ c : Dev nD, k0_off3 c 0#32 1#32 = ![32 * (org 12 c).val, 0] := by decide +kernel
theorem toff13 : ∀ c : Dev nD, k0_off3 c 3#32 4294967295#32 = ![32 * (org 13 c).val, 0] := by decide +kernel
theorem toff14 : ∀ c : Dev nD, k0_off3 c 3#32 1#32 = ![32 * (org 14 c).val, 0] := by decide +kernel
theorem toff15 : ∀ c : Dev nD, k0_off3 c 1#32 4294967295#32 = ![32 * (org 15 c).val, 0] := by decide +kernel
theorem toff16 : ∀ c : Dev nD, k0_off3 c 1#32 1#32 = ![32 * (org 16 c).val, 0] := by decide +kernel
theorem toff17 : ∀ c : Dev nD, k0_off3 c 2#32 4294967295#32 = ![32 * (org 17 c).val, 0] := by decide +kernel
theorem toff18 : ∀ c : Dev nD, k0_off3 c 2#32 1#32 = ![32 * (org 18 c).val, 0] := by decide +kernel
theorem toff19 : ∀ c : Dev nD, k0_off3 c 0#32 4294967294#32 = ![32 * (org 19 c).val, 0] := by decide +kernel
theorem toff20 : ∀ c : Dev nD, k0_off3 c 0#32 2#32 = ![32 * (org 20 c).val, 0] := by decide +kernel
theorem toff21 : ∀ c : Dev nD, k0_off3 c 3#32 4294967294#32 = ![32 * (org 21 c).val, 0] := by decide +kernel
theorem toff22 : ∀ c : Dev nD, k0_off3 c 3#32 2#32 = ![32 * (org 22 c).val, 0] := by decide +kernel
theorem toff23 : ∀ c : Dev nD, k0_off3 c 1#32 4294967294#32 = ![32 * (org 23 c).val, 0] := by decide +kernel
theorem toff24 : ∀ c : Dev nD, k0_off3 c 1#32 2#32 = ![32 * (org 24 c).val, 0] := by decide +kernel
theorem toff25 : ∀ c : Dev nD, k0_off3 c 2#32 4294967294#32 = ![32 * (org 25 c).val, 0] := by decide +kernel
theorem toff26 : ∀ c : Dev nD, k0_off3 c 2#32 2#32 = ![32 * (org 26 c).val, 0] := by decide +kernel
theorem toff27 : ∀ c : Dev nD, k0_off3 c 0#32 4294967293#32 = ![32 * (org 27 c).val, 0] := by decide +kernel
theorem toff28 : ∀ c : Dev nD, k0_off3 c 3#32 4294967293#32 = ![32 * (org 28 c).val, 0] := by decide +kernel
theorem toff29 : ∀ c : Dev nD, k0_off3 c 1#32 3#32 = ![32 * (org 29 c).val, 0] := by decide +kernel
theorem toff30 : ∀ c : Dev nD, k0_off3 c 2#32 3#32 = ![32 * (org 30 c).val, 0] := by decide +kernel
end Cert.AllGather

end
-- ==== Proof.Sched.lean ====
/- The protocol of the all-gather: the row blocks of the gathering buffer and their contents, the semaphores and the one
   round each of them runs, what a device owes at launch, and the levels that order the waits.

   Per device: the entry barrier is signalled once by each of the five neighbours, each signal handing over those row
   blocks of the signaller's gathering buffer that this device will send into. Each of the thirty-one transfers has a
   sending semaphore, which hands back the share of the source the transfer read, and a receiving semaphore, which
   hands over the row block with its owner's rows in it. -/
module

public import proofs.«01_k».proof.Proof.Tables

@[expose] public section

set_option maxRecDepth 16384

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and this protocol's, its duties named by the five signals -/

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The row blocks -/

theorem rows_inb (o : Dev nD) : ∀ a, (![32 * o.val, 0] : Fin 2 → ℕ) a + S32x1024.size a ≤ S1024x1024.size a := by
  have h : o.val < 32 := o.isLt
  intro a
  fin_cases a
  · show 32 * o.val + 32 ≤ 1024; omega
  · show 0 + 1024 ≤ 1024; omega

/-- Device `o`'s rows of the gathering buffer, as a rectangle -/
abbrev rowR (o : Dev nD) : Rect S1024x1024 := Rect.unit (s := S1024x1024) ![32 * o.val, 0] S32x1024.size (rows_inb o)
/-- and as a set of indices. -/
def rows (o : Dev nD) : Finset S1024x1024.Idx := (rowR o).set

theorem mem_rows (o : Dev nD) (i : S1024x1024.Idx) : i ∈ rows o ↔ (i 0).val / 32 = o.val := by
  unfold rows
  rw [Rect.mem_set_unit]
  have h1 : (i 1 : ℕ) < 1024 := (i 1).isLt
  constructor
  · intro h
    have h0 : 32 * o.val ≤ (i 0 : ℕ) ∧ (i 0 : ℕ) < 32 * o.val + 32 := h 0
    omega
  · intro h a
    match a with
    | ⟨0, _⟩ => show 32 * o.val ≤ (i 0 : ℕ) ∧ (i 0 : ℕ) < 32 * o.val + 32; omega
    | ⟨1, _⟩ => show 0 ≤ (i 1 : ℕ) ∧ (i 1 : ℕ) < 0 + 1024; omega

theorem rows_disj {o o' : Dev nD} (h : o ≠ o') : Disjoint (rows o) (rows o') :=
  Finset.disjoint_left.mpr fun i hi hi' => h (Fin.ext (((mem_rows o i).mp hi).symm.trans ((mem_rows o' i).mp hi')))

/-- The device whose rows hold index `i`. -/
def rowDev (i : S1024x1024.Idx) : Dev nD := ⟨(i 0).val / 32, by have : (i 0).val < 1024 := (i 0).isLt; show _ < 32; omega⟩
theorem mem_rows_rowDev (i : S1024x1024.Idx) : i ∈ rows (rowDev i) := (mem_rows _ i).mpr rfl

theorem rows_cover : Finset.univ.biUnion rows = (Finset.univ : Finset S1024x1024.Idx) := by
  ext i; simp only [Finset.mem_biUnion, Finset.mem_univ, true_and, iff_true]; exact ⟨_, mem_rows_rowDev i⟩

/-! ## Contents -/

/-- Device `c`'s block of `x` and its block of `w`, as staged. -/
def xstg (c : Dev nD) : (cc0_stg0_0 : Ref sig .tc).ty.Contents (Elt F) :=
  (win0_0.blk (0 : Fin 1)).view.read (Elt F) ((s₀ m ρ).mem ((c : Thread nD τ).loc main_arg0))
def wstg (c : Dev nD) : (cc0_stg1_0 : Ref sig .tc).ty.Contents (Elt F) :=
  (win0_1.blk (0 : Fin 1)).view.read (Elt F) ((s₀ m ρ).mem ((c : Thread nD τ).loc main_arg1))

/-- Index `i` inside the block of rows it lies in. -/
def inRow (i : S1024x1024.Idx) : S32x1024.Idx := fun a => match a with
  | ⟨0, _⟩ => ⟨(i 0).val % 32, Nat.mod_lt _ (by decide)⟩
  | ⟨1, _⟩ => ⟨(i 1).val, (i 1).isLt⟩

/-- What every gathering buffer ends up holding: at each device's rows, that device's block of `x`. -/
def gath : (cc0_scratch0 : Ref sig .tc).ty.Contents (Elt F) := fun i => xstg m ρ (rowDev i) (inRow i)

/-- Device `c` holds, at share `q`, device `o`'s rows of its gathering buffer with contents `f`. -/
def slotPts (c o : Dev nD) (q : PosShare TreeShare) (f : (cc0_scratch0 : Ref sig .tc).ty.Contents (Elt F)) : sProp 𝕄 :=
  ((c : Thread nD τ).loc cc0_scratch0) ↦[rows o]{q} f

instance slotPts_storable (c o : Dev nD) (q) (f) : BI.Storable (upEmb : UEmb _ 𝕄) (slotPts (F := F) c o q f) := by
  unfold slotPts; infer_instance

/-- The share a device keeps of each row block for its own read of the whole buffer, -/
abbrev keepQ : PosShare TreeShare := Transfers.shareDrop fullShare 31
/-- and the share its transfer `t` reads the source with. -/
abbrev tokQ (t : Fin 31) : PosShare TreeShare := Transfers.shareTok fullShare 31 t

/-! ## The semaphores -/

/-- The runtime's barrier semaphore. -/
abbrev barS : Sem sig := (SemArray.scalar (sig.barrier 0 rfl) : Sems sig S_).sem

/-- The protocol's semaphores on one device: the barrier, each transfer's sending and receiving semaphore. -/
abbrev CIx : Type := Option (Bool × Fin 31)
/-- The kernel's own, as the launch indexes them, -/
def osem (x : Bool × Fin 31) : SemLoc sig := if x.1 then .dma (rsem x.2) else .dma (ssem x.2)
/-- and all of them. -/
def csem : CIx → SemLoc sig
  | none => .reg barS
  | some x => osem x

abbrev barCell (c : Dev nD) : GSem nD τ sig := ((c : Thread nD τ), .reg barS)
abbrev sendCell (c : Dev nD) (t : Fin 31) : GSem nD τ sig := ((c : Thread nD τ), .dma (ssem t))
abbrev recvCell (c : Dev nD) (t : Fin 31) : GSem nD τ sig := ((c : Thread nD τ), .dma (rsem t))
def kcell (ck : Dev nD × CIx) : GSem nD τ sig := ((ck.1 : Thread nD τ), csem ck.2)

/-- The units one row block credits. -/
def N : ℕ := (cc0_scratch0 : Ref sig .tc).dmaCredit S32x1024 .bf16
theorem credit_slot (r : Rect S1024x1024) (hr : r.shape = S32x1024) (hs) :
    ((Memref.whole cc0_scratch0 : Memref sig .tc .vmem S1024x1024 .bf16).slice r hs).view.dmaCredit = (cc0_scratch0 : Ref sig .tc).dmaCredit r.shape .bf16 := rfl
theorem N_pos : 0 < N :=
  View.dmaCredit_pos ((Memref.whole cc0_scratch0 : Memref sig .tc .vmem S1024x1024 .bf16).slice (rowR 0) (fun _ => rfl)).view (by decide)

/-! ## The schedule -/

/-- What signal `k` hands the device `c` it reaches: the row blocks of the signaller's buffer that `c` sends into. -/
def grant (c : Dev nD) (k : Fin 5) : sProp 𝕄 :=
  bigSep (Finset.univ.filter fun t => bk t = k) fun t => iprop(∃ f, slotPts (tgt t c) (org t c) fullShare f)

/-- What a semaphore serving transfer `t` hands device `c`: the share the transfer read, or the row block it brought. -/
def xferPay (c : Dev nD) : Bool × Fin 31 → sProp 𝕄
  | (false, t) => slotPts c (org t c) (tokQ t) (gath m ρ)
  | (true, t) => slotPts c (owner c (some t)) fullShare (gath m ρ)

def payOf (c : Dev nD) (x : Option (Bool × Fin 31)) : sProp 𝕄 := x.elim iprop(emp) (xferPay m ρ c)

/-- The duties of one semaphore's round 0. -/
def dutOf : SemLoc sig → Finset (Fin 5)
  | .reg s => if s = barS then Finset.univ else ∅
  | .dma s => if (semIx s.val).isSome then {0} else ∅

def semPay (c : Dev nD) (k : Fin 5) : SemLoc sig → sProp 𝕄
  | .reg _ => grant c k
  | .dma s => payOf m ρ c (semIx s.val)

/-- The number of units one duty of a semaphore pays. -/
def amt : SemLoc sig → ℕ
  | .reg _ => 1
  | .dma _ => N

/-- One round, round 0. -/
def Rd : Rounds.Schedule (GSem nD τ sig) (Fin 5) 𝕄 where
  duties g r := if r = 0 ∧ g.1.2 = .tc then dutOf g.2 else ∅
  unitless _ := False
  amount g _ _ := amt g.2
  payload g _ k := semPay m ρ g.1.1 k g.2
  amount_pos g _ _ _ := by
    cases g.2 with
    | reg _ => exact Nat.one_pos
    | dma _ => exact N_pos

instance grant_storable (c : Dev nD) (k : Fin 5) : BI.Storable (upEmb : UEmb _ 𝕄) (grant (F := F) c k) := by
  unfold grant; infer_instance

instance payOf_storable (c : Dev nD) (x) : BI.Storable (upEmb : UEmb _ 𝕄) (payOf (F := F) m ρ c x) := by
  match x with
  | none => unfold payOf; dsimp only [Option.elim]; infer_instance
  | some (false, t) => unfold payOf; dsimp only [Option.elim, xferPay]; infer_instance
  | some (true, t) => unfold payOf; dsimp only [Option.elim, xferPay]; infer_instance

instance semPay_storable (c : Dev nD) (k : Fin 5) (s : SemLoc sig) : BI.Storable (upEmb : UEmb _ 𝕄) (semPay (F := F) m ρ c k s) := by
  cases s with
  | reg _ => unfold semPay; infer_instance
  | dma _ => unfold semPay; infer_instance

instance Rd_payload_storable (g : GSem nD τ sig) (r : ℕ) (d : Fin 5) :
    BI.Storable (upEmb : UEmb _ 𝕄) ((Rd (F := F) m ρ).payload g r d) := by
  show BI.Storable upEmb (semPay m ρ g.1.1 d g.2)
  infer_instance

section Sched
variable (c : Dev nD) (t : Fin 31)

omit [FloatOps F] in
theorem duties_bar : (Rd (F := F) m ρ).duties (barCell c) 0 = Finset.univ := by
  dsimp only [Rd]; rw [if_pos ⟨rfl, rfl⟩]; unfold dutOf; exact if_pos rfl
omit [FloatOps F] in
theorem duties_send : (Rd (F := F) m ρ).duties (sendCell c t) 0 = {0} := by
  dsimp only [Rd]; rw [if_pos ⟨rfl, rfl⟩]; unfold dutOf; dsimp only; rw [semIx_ssem]; rfl
omit [FloatOps F] in
theorem duties_recv : (Rd (F := F) m ρ).duties (recvCell c t) 0 = {0} := by
  dsimp only [Rd]; rw [if_pos ⟨rfl, rfl⟩]; unfold dutOf; dsimp only; rw [semIx_rsem]; rfl
omit [FloatOps F] in
theorem duties_later (g : GSem nD τ sig) : ∀ r, 1 ≤ r → (Rd (F := F) m ρ).duties g r = ∅ :=
  fun r hr => by dsimp only [Rd]; exact if_neg fun h => by omega

omit [FloatOps F] in
theorem amount_bar (d : Fin 5) : (Rd (F := F) m ρ).amount (barCell c) 0 d = 1 := rfl
omit [FloatOps F] in
theorem amount_send (d : Fin 5) : (Rd (F := F) m ρ).amount (sendCell c t) 0 d = N := rfl
omit [FloatOps F] in
theorem amount_recv (d : Fin 5) : (Rd (F := F) m ρ).amount (recvCell c t) 0 d = N := rfl

omit [FloatOps F] in
/-- A round of one duty expects that duty's amount, -/
theorem expect_one {g : GSem nD τ sig} {d : Fin 5} (h : (Rd (F := F) m ρ).duties g 0 = {d}) :
    (Rd (F := F) m ρ).expect g 0 = (Rd (F := F) m ρ).amount g 0 d := by
  unfold Schedule.expect Schedule.amountOf; rw [h]; exact Finset.sum_singleton _ _
omit [FloatOps F] in
/-- and hands over that duty's payload. -/
theorem rest_one {g : GSem nD τ sig} {d : Fin 5} (h : (Rd (F := F) m ρ).duties g 0 = {d}) :
    bigSep ((Rd (F := F) m ρ).duties g 0 \ ∅) (fun d => (Rd (F := F) m ρ).payload g 0 d) = (Rd (F := F) m ρ).payload g 0 d := by
  rw [h, Finset.sdiff_empty]; exact bigSep_singleton

omit [FloatOps F] in
theorem expect_bar : (Rd (F := F) m ρ).expect (barCell c) 0 = 5 := by
  show ∑ d ∈ (Rd (F := F) m ρ).duties (barCell c) 0, 1 = 5
  rw [duties_bar]; rfl
omit [FloatOps F] in
theorem expect_send : (Rd (F := F) m ρ).expect (sendCell c t) 0 = N :=
  expect_one m ρ (duties_send m ρ c t)
omit [FloatOps F] in
theorem expect_recv : (Rd (F := F) m ρ).expect (recvCell c t) 0 = N :=
  expect_one m ρ (duties_recv m ρ c t)

omit [FloatOps F] in
theorem payload_bar (k : Fin 5) : (Rd (F := F) m ρ).payload (barCell c) 0 k = grant c k := rfl
omit [FloatOps F] in
theorem payload_send (d : Fin 5) : (Rd (F := F) m ρ).payload (sendCell c t) 0 d = slotPts c (org t c) (tokQ t) (gath m ρ) := by
  show payOf m ρ c (semIx (ssem t).val) = _; rw [semIx_ssem]; rfl
omit [FloatOps F] in
theorem payload_recv (d : Fin 5) : (Rd (F := F) m ρ).payload (recvCell c t) 0 d = slotPts c (owner c (some t)) fullShare (gath m ρ) := by
  show payOf m ρ c (semIx (rsem t).val) = _; rw [semIx_rsem]; rfl

omit [FloatOps F] in
theorem rest_bar : bigSep ((Rd (F := F) m ρ).duties (barCell c) 0 \ ∅) (fun d => (Rd (F := F) m ρ).payload (barCell c) 0 d)
    = bigSep Finset.univ fun t : Fin 31 => iprop(∃ f, slotPts (F := F) (tgt t c) (org t c) fullShare f) := by
  rw [Finset.sdiff_empty, duties_bar, bigSep_fiberwise Finset.univ bk,
    show Finset.univ.image bk = (Finset.univ : Finset (Fin 5)) by decide]
  exact bigSep_congr fun k _ => rfl
omit [FloatOps F] in
theorem rest_send : bigSep ((Rd (F := F) m ρ).duties (sendCell c t) 0 \ ∅) (fun d => (Rd (F := F) m ρ).payload (sendCell c t) 0 d)
    = slotPts c (org t c) (tokQ t) (gath m ρ) :=
  (rest_one m ρ (duties_send m ρ c t)).trans (payload_send m ρ c t 0)
omit [FloatOps F] in
theorem rest_recv : bigSep ((Rd (F := F) m ρ).duties (recvCell c t) 0 \ ∅) (fun d => (Rd (F := F) m ρ).payload (recvCell c t) 0 d)
    = slotPts c (owner c (some t)) fullShare (gath m ρ) :=
  (rest_one m ρ (duties_recv m ρ c t)).trans (payload_recv m ρ c t 0)

end Sched

/-! ## What each device owes; the levels -/

/-- The credit of a device's transfers from `s` on, -/
def oweT (c : Dev nD) (s : ℕ) : CellTallies nD τ sig Unit :=
  ∑ t ∈ Finset.univ.filter fun t : Fin 31 => s ≤ t.val, tallyAt (recvCell (tgt t c) t) () N
/-- and of its signals from `i` on. -/
def oweB (c : Dev nD) (i : ℕ) : CellTallies nD τ sig Unit :=
  ∑ k ∈ Finset.univ.filter fun k : Fin 5 => i ≤ k.val, tallyAt (barCell (sgt k c)) () 1
def O₀ (c : Dev nD) : CellTallies nD τ sig Unit := oweT c 0 + oweB c 0

theorem oweT_succ (c : Dev nD) (t : Fin 31) : oweT c t.val = oweT c (t.val + 1) + tallyAt (recvCell (tgt t c) t) () N := by
  unfold oweT
  rw [show (Finset.univ.filter fun t' : Fin 31 => t.val ≤ t'.val) = insert t (Finset.univ.filter fun t' : Fin 31 => t.val + 1 ≤ t'.val) by
    ext t'; simp only [Finset.mem_filter, Finset.mem_univ, true_and, Finset.mem_insert, Fin.ext_iff]; omega,
    Finset.sum_insert (by simp), add_comm]
theorem oweB_succ (c : Dev nD) (k : Fin 5) : oweB c k.val = oweB c (k.val + 1) + tallyAt (barCell (sgt k c)) () 1 := by
  unfold oweB
  rw [show (Finset.univ.filter fun k' : Fin 5 => k.val ≤ k'.val) = insert k (Finset.univ.filter fun k' : Fin 5 => k.val + 1 ≤ k'.val) by
    ext k'; simp only [Finset.mem_filter, Finset.mem_univ, true_and, Finset.mem_insert, Fin.ext_iff]; omega,
    Finset.sum_insert (by simp), add_comm]
theorem oweT_end (c : Dev nD) : oweT c 31 = 0 := by
  unfold oweT
  rw [show (Finset.univ.filter fun t' : Fin 31 => 31 ≤ t'.val) = ∅ by decide, Finset.sum_empty]
theorem oweB_end (c : Dev nD) : oweB c 5 = 0 := by
  unfold oweB
  rw [show (Finset.univ.filter fun t' : Fin 5 => 5 ≤ t'.val) = ∅ by decide, Finset.sum_empty]

theorem sum_tally_pos {I : Type} [DecidableEq I] (S : Finset I) (f : I → GSem nD τ sig) (n : ℕ) {g : GSem nD τ sig} {u : Unit}
    (h : 0 < (∑ i ∈ S, tallyAt (f i) () n : CellTallies nD τ sig Unit) g u) : ∃ i ∈ S, g = f i := by
  induction S using Finset.induction_on with
  | empty => exact absurd h (Nat.lt_irrefl 0)
  | insert a S ha ih =>
    rw [Finset.sum_insert ha, Pi.add_apply, Finsupp.add_apply] at h
    rcases Nat.eq_zero_or_pos ((tallyAt (f a) () n : CellTallies nD τ sig Unit) g u) with h0 | h0
    · rw [h0, Nat.zero_add] at h
      obtain ⟨i, hi, e⟩ := ih h
      exact ⟨i, Finset.mem_insert_of_mem hi, e⟩
    · exact ⟨a, Finset.mem_insert_self _ _, (Pipeline.tallyAt_pos h0).1⟩

theorem oweT_pos {c : Dev nD} {s : ℕ} {g : GSem nD τ sig} {u : Unit} (h : 0 < oweT c s g u) :
    ∃ t : Fin 31, s ≤ t.val ∧ g = recvCell (tgt t c) t := by
  obtain ⟨t, ht, e⟩ := sum_tally_pos _ (fun t => recvCell (tgt t c) t) N h
  exact ⟨t, (Finset.mem_filter.mp ht).2, e⟩
theorem oweB_pos {c : Dev nD} {s : ℕ} {g : GSem nD τ sig} {u : Unit} (h : 0 < oweB c s g u) :
    ∃ k : Fin 5, g = barCell (sgt k c) := by
  obtain ⟨t, ht, e⟩ := sum_tally_pos _ (fun t => barCell (sgt t c)) 1 h
  exact ⟨t, e⟩

def L (g : GSem nD τ sig) : Finset Unit := if g.1.2 = .tc then {()} else ∅

/-- The level of a semaphore that serves `x`. -/
def lvIx : Option (Bool × Fin 31) → ℕ
  | some (true, t) => 2 + rank t
  | _ => 0
def lvSem : SemLoc sig → ℕ
  | .reg _ => 1
  | .dma s => lvIx (semIx s.val)
/-- Barrier semaphores at 1, receiving semaphores above in the order of their waits, staging and sending ones at 0. -/
def lv (g : GSem nD τ sig) (_ : Unit) : ℕ := lvSem g.2

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (t : Fin 31) (u : Unit) : lv (recvCell c t) u = 2 + rank t := by
  show lvIx (semIx (rsem t).val) = _; rw [semIx_rsem]; rfl
theorem lv_send (c : Dev nD) (t : Fin 31) (u : Unit) : lv (sendCell c t) u = 0 := by
  show lvIx (semIx (ssem t).val) = _; rw [semIx_ssem]; rfl

omit [FloatOps F] in
/-- A wait is allowed while everything owed is at a higher level. -/
theorem mayWait_of (c : Dev nD) (sm : SemLoc sig) (O : CellTallies nD τ sig Unit)
    (h : ∀ g u, 0 < O g u → (∃ (d : Dev nD) (s : SemLoc sig), g = ((d : Thread nD τ), s)) ∧ lvSem sm < lv g u) :
    (levAts L lv : sProp 𝕄) ⊢ MayWait (c : Thread nD τ) sm () O :=
  MayOwe.of_cut (L := L) (lev := lv) (lvSem sm) (fun p hp => by rw [Finset.mem_singleton.mp hp, L_tc]; exact Finset.mem_singleton_self _)
    (fun g u hg => by obtain ⟨⟨d, s, rfl⟩, -⟩ := h g u hg; rw [L_tc]; exact Finset.mem_singleton_self _)
    (fun p hp => by rw [Finset.mem_singleton.mp hp]; exact Nat.le_refl _)
    (fun g u hg => (h g u hg).2)

omit [FloatOps F] in
theorem mayWait_stage (c : Dev nD) (q : DmaSem sig) (hq : semIx q.val = none) (O : CellTallies nD τ sig Unit) (hO : O = O₀ c ∨ O = 0) :
    (levAts L lv : sProp 𝕄) ⊢ MayWait (c : Thread nD τ) (.dma q) () O := by
  rcases hO with rfl | rfl
  · refine mayWait_of c _ _ fun g u hg => ?_
    have hz : lvSem (.dma q) = 0 := by show lvIx (semIx q.val) = 0; rw [hq]; rfl
    rw [hz]
    unfold O₀ at hg
    rw [Pi.add_apply, Finsupp.add_apply] at hg
    rcases Nat.eq_zero_or_pos (oweT c 0 g u) with h0 | h0
    · rw [h0, Nat.zero_add] at hg
      obtain ⟨k, rfl⟩ := oweB_pos hg
      exact ⟨⟨_, _, rfl⟩, Nat.one_pos⟩
    · obtain ⟨t, -, rfl⟩ := oweT_pos h0
      refine ⟨⟨_, _, rfl⟩, ?_⟩
      rw [lv_recv]; omega
  · rw [MayWait_zero]; iintro -; iempintro

omit [FloatOps F] in
theorem mayWait_bar (c : Dev nD) : (levAts L lv : sProp 𝕄) ⊢ MayWait (c : Thread nD τ) (.reg barS) () (oweT c 0) :=
  mayWait_of c _ _ fun g u hg => by
    obtain ⟨t, -, rfl⟩ := oweT_pos hg
    refine ⟨⟨_, _, rfl⟩, ?_⟩
    rw [lv_recv]; show 1 < _; omega

omit [FloatOps F] in
/-- At the wait for arrival `t` with the transfers from `s` on still owed, all of them awaited later than `t`. -/
theorem mayWait_recv (c : Dev nD) (t : Fin 31) (s : ℕ) (h : ∀ t' : Fin 31, s ≤ t'.val → rank t < rank t') :
    (levAts L lv : sProp 𝕄) ⊢ MayWait (c : Thread nD τ) (.dma (rsem t)) () (oweT c s) :=
  mayWait_of c _ _ fun g u hg => by
    obtain ⟨t', ht', rfl⟩ := oweT_pos hg
    refine ⟨⟨_, _, rfl⟩, ?_⟩
    have := h t' ht'
    rw [lv_recv]
    show lvIx (semIx (rsem t).val) < _
    rw [semIx_rsem]
    show 2 + rank t < _
    omega

end Cert.AllGather

end
-- ==== Proof.Steps.lean ====
/- One device's state while it runs the body, by three counters — transfers started, arrivals awaited, sends awaited —,
   and the three steps that move it: starting a transfer, awaiting an arrival, awaiting a send. Each step is one lemma
   over the transfer's number; what it asks of the tables is decided at its use. -/
module

public import proofs.«01_k».proof.Proof.Sched

@[expose] public section

set_option maxRecDepth 16384

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The shared facts -/

/-- Every semaphore's invariant, under the names the launch allocated, and that every one has reached round 0. -/
def records (K : Dev nD × CIx → ℕ) : sProp 𝕄 :=
  iprop((bigSep Finset.univ fun ck : Dev nD × CIx => cellInv ER (Rd m ρ) (K ck) (kcell ck))
    ∗ bigSep Finset.univ fun ck : Dev nD × CIx => reached ER (kcell ck) 0)

instance records_persistent (K : Dev nD × CIx → ℕ) : BI.Persistent (records m ρ K) := by unfold records; infer_instance

omit [FloatOps F] in
/-- One member out of a family of persistent facts. -/
theorem one_of {I : Type} [Fintype I] [DecidableEq I] (Φ : I → sProp 𝕄) (i : I) : (bigSep Finset.univ Φ : sProp 𝕄) ⊢ Φ i := bigSep_elim (Finset.mem_univ i)

omit [FloatOps F] in
theorem inv_at (K : Dev nD × CIx → ℕ) (ck : Dev nD × CIx) : records m ρ K ⊢ cellInv ER (Rd m ρ) (K ck) (kcell ck) := by
  unfold records; iintro ⟨H, -⟩
  iapply (one_of (fun ck : Dev nD × CIx => (cellInv ER (Rd m ρ) (K ck) (kcell ck) : sProp 𝕄)) ck); iexact H
omit [FloatOps F] in
theorem reached_at (K : Dev nD × CIx → ℕ) (ck : Dev nD × CIx) : records m ρ K ⊢ reached ER (kcell ck) 0 := by
  unfold records; iintro ⟨-, H⟩
  iapply (one_of (fun ck : Dev nD × CIx => (reached ER (kcell ck) 0 : sProp 𝕄)) ck); iexact H

omit [FloatOps F] in
/-- One member put beside the rest of a family. -/
theorem ins {I : Type} [DecidableEq I] {s : Finset I} {i : I} (hi : i ∉ s) (Φ : I → sProp 𝕄) :
    bigSep (insert i s) Φ = iprop(Φ i ∗ bigSep s Φ) := bigSep_insert hi
omit [FloatOps F] in
/-- A family in two parts. -/
theorem uni {I : Type} [DecidableEq I] {s t : Finset I} (h : Disjoint s t) (Φ : I → sProp 𝕄) :
    bigSep (s ∪ t) Φ = iprop(bigSep s Φ ∗ bigSep t Φ) := bigSep_union h

omit [FloatOps F] in
theorem inv_send (K : Dev nD × CIx → ℕ) (c : Dev nD) (t : Fin 31) :
    records m ρ K ⊢ cellInv ER (Rd m ρ) (K (c, some (false, t))) (sendCell c t) := inv_at m ρ K (c, some (false, t))
omit [FloatOps F] in
theorem inv_recv (K : Dev nD × CIx → ℕ) (c : Dev nD) (t : Fin 31) :
    records m ρ K ⊢ cellInv ER (Rd m ρ) (K (c, some (true, t))) (recvCell c t) := inv_at m ρ K (c, some (true, t))
omit [FloatOps F] in
theorem inv_bar (K : Dev nD × CIx → ℕ) (c : Dev nD) :
    records m ρ K ⊢ cellInv ER (Rd m ρ) (K (c, none)) (barCell c) := inv_at m ρ K (c, none)
omit [FloatOps F] in
theorem reached_send (K : Dev nD × CIx → ℕ) (c : Dev nD) (t : Fin 31) : records m ρ K ⊢ reached ER (sendCell c t) 0 :=
  reached_at m ρ K (c, some (false, t))
omit [FloatOps F] in
theorem reached_recv (K : Dev nD × CIx → ℕ) (c : Dev nD) (t : Fin 31) : records m ρ K ⊢ reached ER (recvCell c t) 0 :=
  reached_at m ρ K (c, some (true, t))
omit [FloatOps F] in
theorem reached_bar (K : Dev nD × CIx → ℕ) (c : Dev nD) : records m ρ K ⊢ reached ER (barCell c) 0 :=
  reached_at m ρ K (c, none)

/-! ## The row blocks a device holds -/

/-- The share of its source that transfer `t` of device `c` reads. -/
def piece (c : Dev nD) (t : Fin 31) : sProp 𝕄 := slotPts c (org t c) (tokQ t) (gath m ρ)
/-- The rest of a row block: the share kept for the read of the whole buffer, and the shares no transfer uses. -/
def kept (c : Dev nD) (a : Slot) : sProp 𝕄 :=
  iprop(slotPts c (owner c a) keepQ (gath m ρ)
    ∗ bigSep (Finset.univ.filter fun t : Fin 31 => ¬ srcOf t = a) fun t => slotPts c (owner c a) (tokQ t) (gath m ρ))

omit [FloatOps F] in
/-- A row block held outright is what is kept of it and one share for each transfer that reads it. -/
theorem slot_split (c : Dev nD) (a : Slot) :
    (slotPts c (owner c a) fullShare (gath m ρ) : sProp 𝕄)
      ⊣⊢ iprop(kept m ρ c a ∗ bigSep (Finset.univ.filter fun t : Fin 31 => srcOf t = a) (piece m ρ c)) := by
  have e : (bigSep Finset.univ fun t : Fin 31 => (slotPts c (owner c a) (tokQ t) (gath m ρ) : sProp 𝕄))
      = iprop((bigSep (Finset.univ.filter fun t : Fin 31 => srcOf t = a) (piece m ρ c))
        ∗ bigSep (Finset.univ.filter fun t : Fin 31 => ¬ srcOf t = a) fun t => slotPts c (owner c a) (tokQ t) (gath m ρ)) := by
    rw [bigSep_filter_split (p := fun t : Fin 31 => srcOf t = a)]
    congr 1
    exact bigSep_congr fun t ht => by
      unfold piece; rw [← (Finset.mem_filter.mp ht).2, owner_srcOf]
  have h : (slotPts c (owner c a) fullShare (gath m ρ) : sProp 𝕄)
      ⊣⊢ iprop(slotPts c (owner c a) keepQ (gath m ρ) ∗ bigSep Finset.univ fun t : Fin 31 => slotPts c (owner c a) (tokQ t) (gath m ρ)) :=
    Transfers.pointsTo_toks fullShare 31
  rw [e] at h
  unfold kept
  constructor
  · refine h.1.trans ?_
    show iprop(_ ∗ _ ∗ _) ⊢ (iprop((_ ∗ _) ∗ _) : sProp 𝕄)
    iintro ⟨H1, H2, H3⟩
    isplitl [H1 H3]
    · isplitl [H1] <;> iassumption
    iexact H2
  · refine BI.Entails.trans ?_ h.2
    show iprop((_ ∗ _) ∗ _) ⊢ (iprop(_ ∗ _ ∗ _) : sProp 𝕄)
    iintro ⟨⟨H1, H3⟩, H2⟩
    isplitl [H1]; · iexact H1
    isplitl [H2] <;> iassumption

/-! ## The state -/

/-- Whether the row block `a` has come by the time `r` arrivals have been awaited. -/
def got (r : ℕ) : Slot → Bool
  | none => true
  | some t => decide (rank t < r)

/-- The row blocks held after `r` arrivals, -/
def acq (r : ℕ) : Finset Slot := Finset.univ.filter fun a => got r a = true
/-- and the transfers whose share of their source is at hand: its block has come, and the transfer is not under way. -/
def act (s r w : ℕ) : Finset (Fin 31) := Finset.univ.filter fun t => got r (srcOf t) = true ∧ ¬ (w ≤ t.val ∧ t.val < s)

/-- What a transfer is paid for with: its two duties, and the row block at its target. -/
def pkg (c : Dev nD) (t : Fin 31) : sProp 𝕄 :=
  iprop((dutyTok ER (recvCell (tgt t c) t) 0 0 ∗ dutyTok ER (sendCell c t) 0 0) ∗ ∃ f, slotPts (tgt t c) (org t c) fullShare f)
/-- What an arrival is awaited with. -/
def rpk (c : Dev nD) (t : Fin 31) : sProp 𝕄 :=
  iprop(atPos ER (recvCell c t) 0 ∅ 0 ∗ cred (tallyAt (recvCell c t) () N))

/-- Device `c` with `s` transfers started, `r` arrivals and `w` sends awaited. -/
def St (K : Dev nD × CIx → ℕ) (c : Dev nD) (s r w : ℕ) : sProp 𝕄 :=
  iprop(records m ρ K ∗ levAts L lv
    ∗ (∃ W, owes (c : Thread nD τ) (oweT c s) W)
    ∗ bigSep (Finset.univ.filter fun t : Fin 31 => s ≤ t.val) (pkg c)
    ∗ bigSep (Finset.univ.filter fun t : Fin 31 => r ≤ rank t) (rpk c)
    ∗ bigSep (Finset.univ.filter fun t : Fin 31 => rank t < r) (fun t => semVal (recvCell c t) 0)
    ∗ bigSep (Finset.univ.filter fun t : Fin 31 => w ≤ t.val ∧ t.val < s) (fun t => cred (tallyAt (sendCell c t) () N))
    ∗ bigSep (Finset.univ.filter fun t : Fin 31 => w ≤ t.val) (fun t => atPos ER (sendCell c t) 0 ∅ 0)
    ∗ bigSep (Finset.univ.filter fun t : Fin 31 => t.val < w) (fun t => semVal (sendCell c t) 0)
    ∗ bigSep (acq r) (kept m ρ c)
    ∗ bigSep (act s r w) (piece m ρ c))

/-! ## Starting a transfer -/

abbrev gxM : Memref sig .tc .vmem S1024x1024 .bf16 := Memref.whole cc0_scratch0
abbrev slotM (o : Dev nD) : Memref sig .tc .vmem S32x1024 .bf16 := gxM.slice (rowR o) (fun _ => rfl)

omit [FloatOps F] in
theorem slotM_set (o : Dev nD) : (slotM o).view.set = rows o := View.set_slice_whole _ _
omit [FloatOps F] in
theorem slotPts_eq (c o : Dev nD) (q : PosShare TreeShare) (f : (cc0_scratch0 : Ref sig .tc).ty.Contents (Elt F)) :
    (slotPts c o q f : sProp 𝕄) = ((slotM o).view.loc (c : Thread nD τ) ↦[(slotM o).view.set]{q} f) := by
  rw [slotM_set]; rfl

omit [FloatOps F] in
/-- Writing into a block of rows what they read elsewhere makes them hold the same there. -/
theorem landed_eq (c o : Dev nD) (fd g : (cc0_scratch0 : Ref sig .tc).ty.Contents (Elt F)) :
    ((slotM o).view.loc (c : Thread nD τ) ↦[(slotM o).view.set]{fullShare} ((slotM o).view.write (Elt F) fd ((slotM o).view.read (Elt F) g) Finset.univ) : sProp 𝕄)
      = slotPts c o fullShare g := by
  rw [slotPts_eq]
  refine pointsTo_congr fun i hi => ?_
  rw [View.write_read_eq_piecewise]
  exact Finset.piecewise_eq_of_mem _ _ _ (by rw [View.setOn_univ]; exact hi)

/-- Any device reaches any other. -/
theorem reach (c n : Dev nD) : τ.routes (c : Thread nD τ) (n : Thread nD τ) = true := by routes

/-- A transfer between two row blocks, stated of what it consumes and yields. -/
theorem wp_send_slot (K : Dev nD × CIx → ℕ) (c n : Dev nD) (t : Fin 31) (hn : n = tgt t c)
    {hsc : (slotM (org t c) : Memref sig (Dev.tc n : Thread nD τ).2.kind .vmem S32x1024 .bf16).view.ref.isScScratch = false}
    {hsrc : (slotM (org t c)).view.WordExact} {hdst : (slotM (org t c)).view.WordExact}
    {hsem : DmaTarget.Typed .vmem (.dma (rsem t)) (.remote (Dev.tc n : Thread nD τ) (slotM (org t c)) (.dma (ssem t)) hsc)}
    {α : Type} {Q : α → sProp 𝕄} {k : PUnit → Prog (TpuEff nD τ sig (Elt F) Λ₀ .tc) α}
    (fd : (cc0_scratch0 : Ref sig .tc).ty.Contents (Elt F)) (W : Waits sig Unit) :
    iprop(cellInv ER (Rd m ρ) (K (c, some (false, t))) (sendCell c t) ∗ cellInv ER (Rd m ρ) (K (tgt t c, some (true, t))) (recvCell (tgt t c) t)
        ∗ slotPts c (org t c) (tokQ t) (gath m ρ) ∗ slotPts (tgt t c) (org t c) fullShare fd
        ∗ owes (c : Thread nD τ) (oweT c (t.val + 1) + tallyAt (recvCell (tgt t c) t) () N) W
        ∗ dutyTok ER (sendCell c t) 0 0 ∗ reached ER (sendCell c t) 0
        ∗ dutyTok ER (recvCell (tgt t c) t) 0 0 ∗ reached ER (recvCell (tgt t c) t) 0)
      ⊢ iprop(((cred (tallyAt (sendCell c t) () N) ∗ owes (c : Thread nD τ) (oweT c (t.val + 1)) W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM (org t c)) (.remote (Dev.tc n : Thread nD τ) (slotM (org t c)) (.dma (ssem t)) hsc) (.dma (rsem t)) hsrc hdst hsem) k) Q) := by
  subst hn
  have h1 : ((slotM (org t c)).view.loc (c : Thread nD τ) ↦[(slotM (org t c)).view.set]{tokQ t} gath m ρ : sProp 𝕄)
      ⊢ (Rd m ρ).payload (sendCell c t) 0 0 := by
    rw [payload_send]; exact Entails.of_eq (slotPts_eq c (org t c) (tokQ t) (gath m ρ)).symm
  have h2 : ((slotM (org t c)).view.loc (tgt t c : Thread nD τ) ↦[(slotM (org t c)).view.set]{fullShare}
        ((slotM (org t c)).view.write (Elt F) fd ((slotM (org t c)).view.read (Elt F) (gath m ρ)) Finset.univ) : sProp 𝕄)
      ⊢ (Rd m ρ).payload (recvCell (tgt t c) t) 0 0 := by
    rw [payload_recv, owner_tgt]; exact Entails.of_eq (landed_eq (tgt t c) (org t c) fd (gath m ρ))
  have h3 : (0 : Fin 5) ∈ (Rd m ρ).duties (sendCell c t) 0 := by rw [duties_send]; exact Finset.mem_singleton_self _
  have h4 : (0 : Fin 5) ∈ (Rd m ρ).duties (recvCell (tgt t c) t) 0 := by rw [duties_recv]; exact Finset.mem_singleton_self _
  have hN : (slotM (org t c)).view.amount (.dma (rsem t)) = N := rfl
  have e1 := slotPts_eq c (org t c) (tokQ t) (gath m ρ)
  have e2 := slotPts_eq (tgt t c) (org t c) fullShare fd
  rw [e1, e2]
  exact Rounds.wp_send_pointsTo (defs := defs₀ (F := F)) 𝒱₀ ER (Rd m ρ) (c : Thread nD τ) none (c' := (tgt t c : Thread nD τ))
    (src := slotM (org t c)) (dst := slotM (org t c)) (sS := .dma (ssem t)) (sem := .dma (rsem t)) (hsc := hsc) (hsrc := hsrc)
    (hdst := hdst) (hsem := hsem) (k := k) (Q := Q) (κ₁ := K (c, some (false, t))) (κ₂ := K (tgt t c, some (true, t)))
    (r₁ := 0) (r₂ := 0) (d₁ := 0) (d₂ := 0) (fd := fd) (fs := gath m ρ) (q := tokQ t)
    h3 h4 () () N hN (amount_send m ρ c t 0) (amount_recv m ρ (tgt t c) t 0) (oweT c (t.val + 1)) rfl (W := W) h1 h2
    (reach c (tgt t c))

theorem step_send (K : Dev nD × CIx → ℕ) (c : Dev nD) (t : Fin 31) (s s' r : ℕ) (hs : s = t.val) (hs' : s' = t.val + 1)
    (hg : got r (srcOf t) = true) {n : Dev nD} (hn : n = tgt t c) {off : Fin 2 → ℕ} (hoff : off = ![32 * (org t c).val, 0])
    {sS sR : DmaSem sig} (hS : sS = ssem t) (hR : sR = rsem t) {inb inb' : ∀ a, off a + S32x1024.size a ≤ S1024x1024.size a}
    {hsc : (gxM.slice (Rect.unit (s := S1024x1024) off S32x1024.size inb') (fun _ => rfl) : Memref sig (Dev.tc n : Thread nD τ).2.kind .vmem S32x1024 .bf16).view.ref.isScScratch = false}
    {hsrc : (gxM.slice (Rect.unit (s := S1024x1024) off S32x1024.size inb) (fun _ => rfl)).view.WordExact}
    {hdst : (gxM.slice (Rect.unit (s := S1024x1024) off S32x1024.size inb') (fun _ => rfl)).view.WordExact}
    {hsem : DmaTarget.Typed .vmem (.dma sR) (.remote (Dev.tc n : Thread nD τ) (gxM.slice (Rect.unit (s := S1024x1024) off S32x1024.size inb') (fun _ => rfl) : Memref sig .tc .vmem S32x1024 .bf16) (.dma sS) hsc)}
    {α : Type} {Q : α → sProp 𝕄} {k : PUnit → Prog (TpuEff nD τ sig (Elt F) Λ₀ .tc) α} :
    St m ρ K c s r 0
      ⊢ iprop((St m ρ K c s' r 0 -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (gxM.slice (Rect.unit (s := S1024x1024) off S32x1024.size inb) (fun _ => rfl))
                (.remote (Dev.tc n : Thread nD τ) (gxM.slice (Rect.unit (s := S1024x1024) off S32x1024.size inb') (fun _ => rfl)) (.dma sS) hsc) (.dma sR) hsrc hdst hsem) k) Q) := by
  subst hn hoff hS hR hs hs'
  unfold St
  rw [show (Finset.univ.filter fun t' : Fin 31 => t.val ≤ t'.val) = insert t (Finset.univ.filter fun t' : Fin 31 => t.val + 1 ≤ t'.val) by
      ext t'; simp only [Finset.mem_filter, Finset.mem_univ, true_and, Finset.mem_insert, Fin.ext_iff]; omega,
    ins (by simp),
    show (Finset.univ.filter fun t' : Fin 31 => 0 ≤ t'.val ∧ t'.val < t.val + 1) = insert t (Finset.univ.filter fun t' : Fin 31 => 0 ≤ t'.val ∧ t'.val < t.val) by
      ext t'; simp only [Finset.mem_filter, Finset.mem_univ, true_and, Finset.mem_insert, Fin.ext_iff]; omega,
    ins (by simp),
    show act t.val r 0 = insert t (act (t.val + 1) r 0) by
      ext t'; simp only [act, Finset.mem_filter, Finset.mem_univ, true_and, Finset.mem_insert]
      constructor
      · rintro ⟨h1, h2⟩
        by_cases e : t' = t
        · exact .inl e
        · exact .inr ⟨h1, fun h => h2 ⟨h.1, by have : t'.val ≠ t.val := fun h' => e (Fin.ext h'); omega⟩⟩
      · rintro (rfl | ⟨h1, h2⟩)
        · exact ⟨hg, by omega⟩
        · exact ⟨h1, by omega⟩,
    ins (by simp [act]), oweT_succ]
  unfold pkg piece
  iintro ⟨#HR, #Hlev, ⟨%W, HO⟩, ⟨⟨⟨HtR, HtS⟩, ⟨%fd, Hd⟩⟩, Hpk⟩, Hrp, Hrz, Hcr, Hat, Hsz, Hkp, Hsrc, Hpc⟩ Hk
  iapply (wp_send_slot m ρ K c _ t rfl fd W) $$ [HO HtR HtS Hsrc Hd]
  · isplitr; · iapply (inv_send m ρ K c t); iexact HR
    isplitr; · iapply (inv_recv m ρ K (tgt t c) t); iexact HR
    isplitl [Hsrc]; · iexact Hsrc
    isplitl [Hd]; · iexact Hd
    isplitl [HO]; · iexact HO
    isplitl [HtS]; · iexact HtS
    isplitr; · iapply (reached_send m ρ K c t); iexact HR
    isplitl [HtR]; · iexact HtR
    iapply (reached_recv m ρ K (tgt t c) t); iexact HR
  iintro ⟨Hc, HO⟩
  iapply Hk
  isplitr; · iexact HR
  isplitr; · iexact Hlev
  isplitl [HO]; · iexists W; iexact HO
  isplitl [Hpk]; · iexact Hpk
  isplitl [Hrp]; · iexact Hrp
  isplitl [Hrz]; · iexact Hrz
  isplitl [Hc Hcr]
  · isplitl [Hc] <;> iassumption
  isplitl [Hat]; · iexact Hat
  isplitl [Hsz]; · iexact Hsz
  isplitl [Hkp] <;> iassumption

end Cert.AllGather

end
-- ==== Proof.Waits.lean ====
/- The two waiting steps: for an arrival, which brings a row block, and for a send, which gives back the share it read. -/
module

public import proofs.«01_k».proof.Proof.Steps

@[expose] public section

set_option maxRecDepth 16384

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Awaiting an arrival -/

omit [FloatOps F] in
theorem acq_succ (t : Fin 31) : acq (rank t + 1) = insert (some t) (acq (rank t)) := by
  ext a
  cases a with
  | none => exact ⟨fun _ => Finset.mem_insert_of_mem (Finset.mem_filter.mpr ⟨Finset.mem_univ _, rfl⟩), fun _ => Finset.mem_filter.mpr ⟨Finset.mem_univ _, rfl⟩⟩
  | some t' =>
    have hg : ∀ r, (some t' : Slot) ∈ acq r ↔ rank t' < r := fun r => by
      unfold acq; rw [Finset.mem_filter]; exact ⟨fun h => of_decide_eq_true h.2, fun h => ⟨Finset.mem_univ _, decide_eq_true h⟩⟩
    rw [Finset.mem_insert, hg, hg, Option.some.injEq]
    constructor
    · intro h
      by_cases e : rank t' = rank t
      · exact .inl (rank_inj _ _ e)
      · exact .inr (by omega)
    · rintro (rfl | h) <;> omega

omit [FloatOps F] in
theorem act_succ (t : Fin 31) (s : ℕ) (hb : ∀ t' : Fin 31, srcOf t' = some t → s ≤ t'.val) :
    act s (rank t + 1) 0 = act s (rank t) 0 ∪ Finset.univ.filter fun t' : Fin 31 => srcOf t' = some t := by
  have key : ∀ a : Slot, (got (rank t + 1) a = true ↔ got (rank t) a = true ∨ a = some t) := by
    intro a
    have h := Finset.ext_iff.mp (acq_succ t) a
    simp only [acq, Finset.mem_filter, Finset.mem_univ, _root_.true_and, Finset.mem_insert] at h
    rw [h, or_comm]
  ext t'
  simp only [act, Finset.mem_union, Finset.mem_filter, Finset.mem_univ, _root_.true_and]
  rw [key]
  constructor
  · rintro ⟨h | h, h2⟩
    · exact .inl ⟨h, h2⟩
    · exact .inr h
  · rintro (⟨h, h2⟩ | h)
    · exact ⟨.inl h, h2⟩
    · exact ⟨.inr h, by have := hb t' h; omega⟩

omit [FloatOps F] in
theorem act_disj (t : Fin 31) (s : ℕ) : Disjoint (act s (rank t) 0) (Finset.univ.filter fun t' : Fin 31 => srcOf t' = some t) := by
  rw [Finset.disjoint_left]
  intro t' h h'
  simp only [act, Finset.mem_filter, Finset.mem_univ, _root_.true_and] at h h'
  rw [h'] at h
  simp [got] at h

theorem step_recv (K : Dev nD × CIx → ℕ) (c : Dev nD) (t : Fin 31) (s r r' : ℕ) (hr : r = rank t) (hr' : r' = rank t + 1)
    (hm : ∀ t' : Fin 31, s ≤ t'.val → rank t < rank t') (hb : ∀ t' : Fin 31, srcOf t' = some t → s ≤ t'.val)
    {off off' : Fin 2 → ℕ} {sR : DmaSem sig} (hR : sR = rsem t)
    {inb : ∀ a, off a + S32x1024.size a ≤ S1024x1024.size a} {inb' : ∀ a, off' a + S32x1024.size a ≤ S1024x1024.size a}
    {hsrc : (gxM.slice (Rect.unit (s := S1024x1024) off S32x1024.size inb) (fun _ => rfl)).view.WordExact}
    {hdst : (gxM.slice (Rect.unit (s := S1024x1024) off' S32x1024.size inb') (fun _ => rfl)).view.WordExact}
    {α : Type} {Q : α → sProp 𝕄} {k : PUnit → Prog (TpuEff nD τ sig (Elt F) Λ₀ .tc) α} :
    St m ρ K c s r 0
      ⊢ iprop((St m ρ K c s r' 0 -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sR (gxM.slice (Rect.unit (s := S1024x1024) off S32x1024.size inb) (fun _ => rfl))
                (gxM.slice (Rect.unit (s := S1024x1024) off' S32x1024.size inb') (fun _ => rfl)) hsrc hdst) k) Q) := by
  subst hR hr hr'
  have hkp : bigSep (acq (rank t + 1)) (kept m ρ c) = iprop(kept m ρ c (some t) ∗ bigSep (acq (rank t)) (kept m ρ c)) := by
    rw [acq_succ]; exact ins (fun h => absurd (Finset.mem_filter.mp h).2 (by show ¬ decide (rank t < rank t) = true; simp)) _
  have hpc : bigSep (act s (rank t + 1) 0) (piece m ρ c)
      = iprop(bigSep (act s (rank t) 0) (piece m ρ c) ∗ bigSep (Finset.univ.filter fun t' : Fin 31 => srcOf t' = some t) (piece m ρ c)) := by
    rw [act_succ t s hb]; exact uni (act_disj t s) _
  have hrp : bigSep (Finset.univ.filter fun t' : Fin 31 => rank t ≤ rank t') (rpk (F := F) c)
      = iprop(rpk c t ∗ bigSep (Finset.univ.filter fun t' : Fin 31 => rank t + 1 ≤ rank t') (rpk c)) := by
    rw [show (Finset.univ.filter fun t' : Fin 31 => rank t ≤ rank t') = insert t (Finset.univ.filter fun t' : Fin 31 => rank t + 1 ≤ rank t') by
      ext t'; simp only [Finset.mem_filter, Finset.mem_univ, _root_.true_and, Finset.mem_insert]
      constructor
      · intro h
        by_cases e : rank t' = rank t
        · exact .inl (rank_inj _ _ e)
        · exact .inr (by omega)
      · rintro (rfl | h) <;> omega]
    exact ins (by simp) _
  have hrz : bigSep (Finset.univ.filter fun t' : Fin 31 => rank t' < rank t + 1) (fun t' => (semVal (recvCell c t') 0 : sProp 𝕄))
      = iprop(semVal (recvCell c t) 0 ∗ bigSep (Finset.univ.filter fun t' : Fin 31 => rank t' < rank t) (fun t' => semVal (recvCell c t') 0)) := by
    rw [show (Finset.univ.filter fun t' : Fin 31 => rank t' < rank t + 1) = insert t (Finset.univ.filter fun t' : Fin 31 => rank t' < rank t) by
      ext t'; simp only [Finset.mem_filter, Finset.mem_univ, _root_.true_and, Finset.mem_insert]
      constructor
      · intro h
        by_cases e : rank t' = rank t
        · exact .inl (rank_inj _ _ e)
        · exact .inr (by omega)
      · rintro (rfl | h) <;> omega]
    exact ins (by simp) _
  unfold St
  rw [hkp, hpc, hrp, hrz]
  unfold rpk
  iintro ⟨#HR, #Hlev, ⟨%W, HO⟩, Hpk, ⟨⟨Hat, Hcr⟩, Hrp⟩, Hrz, Hsc, Hsa, Hsz, Hkp, Hpc⟩ Hk
  iapply (Rounds.wp_wait_rest_token 𝒱₀ ER (Rd m ρ) (c : Thread nD τ) none (κ := K (c, some (true, t)))
      (wpE_waitDma2_eq 𝒱₀ (c : Thread nD τ) none Set.univ) (Set.mem_univ _) () (O := oweT c s) (W := W) (R := 0) (m := 0) (T := ∅)
      ((Nat.zero_add _).trans (expect_recv m ρ c t).symm)) $$ [Hcr HO Hat]
  · isplitr; · iapply (inv_recv m ρ K c t); iexact HR
    isplitl [Hcr]; · iexact Hcr
    isplitl [HO]; · iexact HO
    isplitr; · iapply (mayWait_recv c t s hm); iexact Hlev
    iexact Hat
  iintro ⟨HO, Hat, -, Hpay⟩
  ihave Hp := (Entails.of_eq (rest_recv m ρ c t)) $$ Hpay
  ihave Hq := (slot_split m ρ c (some t)).1 $$ Hp
  icases Hq with ⟨Hkn, Hpn⟩
  imod (Rounds.cell_close ER (Rd m ρ) (Set.mem_univ (K (c, some (true, t)))) (fun h => h) (R := 0 + 1) (duties_later m ρ (recvCell c t))) $$ [Hat] with Hz
  · isplitr; · iapply (inv_recv m ρ K c t); iexact HR
    iexact Hat
  iapply Hk
  isplitr; · iexact HR
  isplitr; · iexact Hlev
  isplitl [HO]; · iexists _; iexact HO
  isplitl [Hpk]; · iexact Hpk
  isplitl [Hrp]; · iexact Hrp
  isplitl [Hz Hrz]
  · isplitl [Hz] <;> iassumption
  isplitl [Hsc]; · iexact Hsc
  isplitl [Hsa]; · iexact Hsa
  isplitl [Hsz]; · iexact Hsz
  isplitl [Hkp Hkn]
  · isplitl [Hkn] <;> iassumption
  isplitl [Hpc] <;> iassumption

/-! ## Awaiting a send -/

theorem step_swait (K : Dev nD × CIx → ℕ) (c : Dev nD) (t : Fin 31) (w w' : ℕ) (hw : w = t.val) (hw' : w' = t.val + 1)
    {off off' : Fin 2 → ℕ} {sS : DmaSem sig} (hS : sS = ssem t)
    {inb : ∀ a, off a + S32x1024.size a ≤ S1024x1024.size a} {inb' : ∀ a, off' a + S32x1024.size a ≤ S1024x1024.size a}
    {hsrc : (gxM.slice (Rect.unit (s := S1024x1024) off S32x1024.size inb) (fun _ => rfl)).view.WordExact}
    {hdst : (gxM.slice (Rect.unit (s := S1024x1024) off' S32x1024.size inb') (fun _ => rfl)).view.WordExact}
    {α : Type} {Q : α → sProp 𝕄} {k : PUnit → Prog (TpuEff nD τ sig (Elt F) Λ₀ .tc) α} :
    St m ρ K c 31 31 w
      ⊢ iprop((St m ρ K c 31 31 w' -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sS (gxM.slice (Rect.unit (s := S1024x1024) off S32x1024.size inb) (fun _ => rfl))
                (gxM.slice (Rect.unit (s := S1024x1024) off' S32x1024.size inb') (fun _ => rfl)) hsrc hdst) k) Q) := by
  subst hS hw hw'
  have hlt := t.isLt
  have hpc : bigSep (act 31 31 (t.val + 1)) (piece m ρ c) = iprop(piece m ρ c t ∗ bigSep (act 31 31 t.val) (piece m ρ c)) := by
    rw [show act 31 31 (t.val + 1) = insert t (act 31 31 t.val) by
      ext t'; simp only [act, Finset.mem_filter, Finset.mem_univ, _root_.true_and, Finset.mem_insert]
      have hl := t'.isLt
      constructor
      · rintro ⟨h1, h2⟩
        by_cases e : t' = t
        · exact .inl e
        · exact .inr ⟨h1, fun h => h2 ⟨by have : t'.val ≠ t.val := fun h' => e (Fin.ext h'); omega, h.2⟩⟩
      · rintro (rfl | ⟨h1, h2⟩)
        · refine ⟨?_, by omega⟩
          cases srcOf t' with
          | none => rfl
          | some t => exact decide_eq_true (rank_lt t)
        · exact ⟨h1, by omega⟩]
    exact ins (by simp [act]) _
  have hsc : bigSep (Finset.univ.filter fun t' : Fin 31 => t.val ≤ t'.val ∧ t'.val < 31) (fun t' => (cred (tallyAt (sendCell c t') () N) : sProp 𝕄))
      = iprop(cred (tallyAt (sendCell c t) () N)
        ∗ bigSep (Finset.univ.filter fun t' : Fin 31 => t.val + 1 ≤ t'.val ∧ t'.val < 31) (fun t' => cred (tallyAt (sendCell c t') () N))) := by
    rw [show (Finset.univ.filter fun t' : Fin 31 => t.val ≤ t'.val ∧ t'.val < 31) = insert t (Finset.univ.filter fun t' : Fin 31 => t.val + 1 ≤ t'.val ∧ t'.val < 31) by
      ext t'; simp only [Finset.mem_filter, Finset.mem_univ, _root_.true_and, Finset.mem_insert, Fin.ext_iff]; omega]
    exact ins (by simp) _
  have hsa : bigSep (Finset.univ.filter fun t' : Fin 31 => t.val ≤ t'.val) (fun t' => (atPos ER (sendCell c t') 0 ∅ 0 : sProp 𝕄))
      = iprop(atPos ER (sendCell c t) 0 ∅ 0
        ∗ bigSep (Finset.univ.filter fun t' : Fin 31 => t.val + 1 ≤ t'.val) (fun t' => atPos ER (sendCell c t') 0 ∅ 0)) := by
    rw [show (Finset.univ.filter fun t' : Fin 31 => t.val ≤ t'.val) = insert t (Finset.univ.filter fun t' : Fin 31 => t.val + 1 ≤ t'.val) by
      ext t'; simp only [Finset.mem_filter, Finset.mem_univ, _root_.true_and, Finset.mem_insert, Fin.ext_iff]; omega]
    exact ins (by simp) _
  have hsz : bigSep (Finset.univ.filter fun t' : Fin 31 => t'.val < t.val + 1) (fun t' => (semVal (sendCell c t') 0 : sProp 𝕄))
      = iprop(semVal (sendCell c t) 0 ∗ bigSep (Finset.univ.filter fun t' : Fin 31 => t'.val < t.val) (fun t' => semVal (sendCell c t') 0)) := by
    rw [show (Finset.univ.filter fun t' : Fin 31 => t'.val < t.val + 1) = insert t (Finset.univ.filter fun t' : Fin 31 => t'.val < t.val) by
      ext t'; simp only [Finset.mem_filter, Finset.mem_univ, _root_.true_and, Finset.mem_insert, Fin.ext_iff]; omega]
    exact ins (by simp) _
  unfold St
  rw [hpc, hsc, hsa, hsz]
  iintro ⟨#HR, #Hlev, ⟨%W, HO⟩, Hpk, Hrp, Hrz, ⟨Hcr, Hsc⟩, ⟨Hat, Hsa⟩, Hsz, Hkp, Hpc⟩ Hk
  iapply (Rounds.wp_wait_rest_token 𝒱₀ ER (Rd m ρ) (c : Thread nD τ) none (κ := K (c, some (false, t)))
      (wpE_waitDma2_eq 𝒱₀ (c : Thread nD τ) none Set.univ) (Set.mem_univ _) () (O := oweT c 31) (W := W) (R := 0) (m := 0) (T := ∅)
      ((Nat.zero_add _).trans (expect_send m ρ c t).symm)) $$ [Hcr HO Hat]
  · isplitr; · iapply (inv_send m ρ K c t); iexact HR
    isplitl [Hcr]; · iexact Hcr
    isplitl [HO]; · iexact HO
    isplitr; · rw [oweT_end, MayWait_zero]; iempintro
    iexact Hat
  iintro ⟨HO, Hat, -, Hpay⟩
  ihave Hp := (Entails.of_eq (rest_send m ρ c t)) $$ Hpay
  imod (Rounds.cell_close ER (Rd m ρ) (Set.mem_univ (K (c, some (false, t)))) (fun h => h) (R := 0 + 1) (duties_later m ρ (sendCell c t))) $$ [Hat] with Hz
  · isplitr; · iapply (inv_send m ρ K c t); iexact HR
    iexact Hat
  iapply Hk
  isplitr; · iexact HR
  isplitr; · iexact Hlev
  isplitl [HO]; · iexists _; iexact HO
  isplitl [Hpk]; · iexact Hpk
  isplitl [Hrp]; · iexact Hrp
  isplitl [Hrz]; · iexact Hrz
  isplitl [Hsc]; · iexact Hsc
  isplitl [Hsa]; · iexact Hsa
  isplitl [Hz Hsz]
  · isplitl [Hz] <;> iassumption
  isplitl [Hkp]; · iexact Hkp
  isplitl [Hp]
  · unfold piece; iexact Hp
  iexact Hpc

end Cert.AllGather

end
-- ==== Proof.Middle.lean ====
/- The parts of the body that only start transfers and await them: each moves the three counters on. -/
module

public import proofs.«01_k».proof.Proof.Waits

@[expose] public section

set_option maxRecDepth 16384

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- One step followed by the rest. -/
theorem thn {P P' R X : sProp 𝕄} (h : P ⊢ iprop((P' -∗ R) -∗ X)) (k : P' ⊢ R) : P ⊢ X := by
  iintro H
  iapply h $$ H
  iintro H
  iapply k; iexact H

/-- The weakest precondition of a piece of device `c`'s body. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem fin {P : sProp 𝕄} {c : Dev nD} {α : Type} (a : α) : P ⊢ wpc c (.ret a) fun _ => P := by
  iintro H; unfold wpc; rw [wp_ret]; imodintro; iexact H

/-- One part of the body followed by the rest. -/
theorem seq {P P' : sProp 𝕄} {c : Dev nD} {α β : Type} {p : Prog (TpuEff nD τ sig (Elt F) Λ₀ .tc) α}
    {k : α → Prog (TpuEff nD τ sig (Elt F) Λ₀ .tc) β} {Q : β → sProp 𝕄} (h : P ⊢ wpc c p fun _ => P') (hk : ∀ x, P' ⊢ wpc c (k x) Q) :
    P ⊢ wpc c (p >>= k) Q := by
  unfold wpc at *
  refine h.trans ?_
  rw [wp_bind]
  exact wp_mono _ _ _ fun x => hk x

theorem org_own : ∀ (t : Fin 31) (c : Dev nD), t.val < 5 → org t c = c := by decide +kernel
theorem toff (t : Fin 31) (c : Dev nD) (h : t.val < 5) : k0_off2 c = ![32 * (org t c).val, 0] := by rw [org_own t c h]; exact Gen.k0_off2_eq c

section Parts
variable (K : Dev nD × CIx → ℕ) (c : Dev nD)

theorem part5 (v2 : BitVec 32) (v52 : BitVec 32) (v71 : BitVec 32) (v83 : BitVec 32) : St m ρ K c 2 0 0 ⊢ wpc c (k0_part5 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v2 v52 v71 v83) fun _ => St m ρ K c 5 0 0 := by
  rw [k0_part5_eq_skeleton]; unfold k0_part5_skel wpc
  simp only [Prog.lift, Prog.bind_op, Prog.bind_ret, Prog.pure_eq_ret]
  refine thn (step_send m ρ K c 2 2 3 0 rfl rfl rfl (tdev2 c) (toff 2 c (by decide)) rfl rfl) ?_
  refine thn (step_send m ρ K c 3 3 4 0 rfl rfl rfl (tdev3 c) (toff 3 c (by decide)) rfl rfl) ?_
  refine thn (step_send m ρ K c 4 4 5 0 rfl rfl rfl (tdev4 c) (toff 4 c (by decide)) rfl rfl) ?_
  exact fin _

theorem part6 (v2 : BitVec 32) (v19 : BitVec 32) (v34 : BitVec 32) (v52 : BitVec 32) (c1_i32_122 : BitVec 32) : St m ρ K c 5 0 0 ⊢ wpc c (k0_part6 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v2 v19 v34 v52 c1_i32_122) fun _ => St m ρ K c 5 1 0 := by
  rw [k0_part6_eq_skeleton]; unfold k0_part6_skel wpc
  simp only [Prog.lift, Prog.bind_op, Prog.bind_ret, Prog.pure_eq_ret]
  refine thn (step_recv m ρ K c 0 5 0 1 rfl rfl (by decide) (by decide) rfl) ?_
  exact fin _

theorem part7 (v2 : BitVec 32) (v19 : BitVec 32) (v34 : BitVec 32) (v71 : BitVec 32) (v178 : BitVec 32) (v181 : BitVec 32) : St m ρ K c 5 1 0 ⊢ wpc c (k0_part7 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v2 v19 v34 v71 v178 v181) fun _ => St m ρ K c 7 2 0 := by
  rw [k0_part7_eq_skeleton]; unfold k0_part7_skel wpc
  simp only [Prog.lift, Prog.bind_op, Prog.bind_ret, Prog.pure_eq_ret]
  refine thn (step_send m ρ K c 5 5 6 1 rfl rfl rfl (tdev5 c) (toff5 c) rfl rfl) ?_
  refine thn (step_send m ρ K c 6 6 7 1 rfl rfl rfl (tdev6 c) (toff6 c) rfl rfl) ?_
  refine thn (step_recv m ρ K c 2 7 1 2 rfl rfl (by decide) (by decide) rfl) ?_
  exact fin _

theorem part8 (v52 : BitVec 32) (v71 : BitVec 32) (v207 : BitVec 32) (v210 : BitVec 32) (v212 : BitVec 32) : St m ρ K c 7 2 0 ⊢ wpc c (k0_part8 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v52 v71 v207 v210 v212) fun _ => St m ρ K c 8 2 0 := by
  rw [k0_part8_eq_skeleton]; unfold k0_part8_skel wpc
  simp only [Prog.lift, Prog.bind_op, Prog.bind_ret, Prog.pure_eq_ret]
  refine thn (step_send m ρ K c 7 7 8 2 rfl rfl rfl (tdev7 c) (toff7 c) rfl rfl) ?_
  exact fin _

theorem part9 (v2 : BitVec 32) (v19 : BitVec 32) (v34 : BitVec 32) : St m ρ K c 8 2 0 ⊢ wpc c (k0_part9 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v2 v19 v34) fun _ => St m ρ K c 9 3 0 := by
  rw [k0_part9_eq_skeleton]; unfold k0_part9_skel wpc
  simp only [Prog.lift, Prog.bind_op, Prog.bind_ret, Prog.pure_eq_ret]
  refine thn (step_send m ρ K c 8 8 9 2 rfl rfl rfl (tdev8 c) (toff8 c) rfl rfl) ?_
  refine thn (step_recv m ρ K c 1 9 2 3 rfl rfl (by decide) (by decide) rfl) ?_
  exact fin _

theorem part10 (v2 : BitVec 32) (v19 : BitVec 32) (v34 : BitVec 32) (v52 : BitVec 32) (v71 : BitVec 32) (v272 : BitVec 32) : St m ρ K c 9 3 0 ⊢ wpc c (k0_part10 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v2 v19 v34 v52 v71 v272) fun _ => St m ρ K c 11 4 0 := by
  rw [k0_part10_eq_skeleton]; unfold k0_part10_skel wpc
  simp only [Prog.lift, Prog.bind_op, Prog.bind_ret, Prog.pure_eq_ret]
  refine thn (step_send m ρ K c 9 9 10 3 rfl rfl rfl (tdev9 c) (toff9 c) rfl rfl) ?_
  refine thn (step_send m ρ K c 10 10 11 3 rfl rfl rfl (tdev10 c) (toff10 c) rfl rfl) ?_
  refine thn (step_recv m ρ K c 3 11 3 4 rfl rfl (by decide) (by decide) rfl) ?_
  exact fin _

theorem part11 (v2 : BitVec 32) (v52 : BitVec 32) (v301 : BitVec 32) (v303 : BitVec 32) (c8_i32_259 : BitVec 32) : St m ρ K c 11 4 0 ⊢ wpc c (k0_part11 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v2 v52 v301 v303 c8_i32_259) fun _ => St m ρ K c 12 4 0 := by
  rw [k0_part11_eq_skeleton]; unfold k0_part11_skel wpc
  simp only [Prog.lift, Prog.bind_op, Prog.bind_ret, Prog.pure_eq_ret]
  refine thn (step_send m ρ K c 11 11 12 4 rfl rfl rfl (tdev11 c) (toff11 c) rfl rfl) ?_
  exact fin _

theorem part12 (v19 : BitVec 32) (v34 : BitVec 32) (v71 : BitVec 32) : St m ρ K c 12 4 0 ⊢ wpc c (k0_part12 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v19 v34 v71) fun _ => St m ρ K c 12 5 0 := by
  rw [k0_part12_eq_skeleton]; unfold k0_part12_skel wpc
  simp only [Prog.lift, Prog.bind_op, Prog.bind_ret, Prog.pure_eq_ret]
  refine thn (step_recv m ρ K c 4 12 4 5 rfl rfl (by decide) (by decide) rfl) ?_
  exact fin _

theorem part13 (v2 : BitVec 32) (v19 : BitVec 32) (v34 : BitVec 32) : St m ρ K c 12 5 0 ⊢ wpc c (k0_part13 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v2 v19 v34) fun _ => St m ρ K c 13 6 0 := by
  rw [k0_part13_eq_skeleton]; unfold k0_part13_skel wpc
  simp only [Prog.lift, Prog.bind_op, Prog.bind_ret, Prog.pure_eq_ret]
  refine thn (step_send m ρ K c 12 12 13 5 rfl rfl rfl (tdev12 c) (toff12 c) rfl rfl) ?_
  refine thn (step_recv m ρ K c 5 13 5 6 rfl rfl (by decide) (by decide) rfl) ?_
  exact fin _

theorem part14 (v2 : BitVec 32) (v19 : BitVec 32) (v34 : BitVec 32) (v52 : BitVec 32) (v393 : BitVec 32) (c32_i32_345 : BitVec 32) : St m ρ K c 13 6 0 ⊢ wpc c (k0_part14 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v2 v19 v34 v52 v393 c32_i32_345) fun _ => St m ρ K c 14 7 0 := by
  rw [k0_part14_eq_skeleton]; unfold k0_part14_skel wpc
  simp only [Prog.lift, Prog.bind_op, Prog.bind_ret, Prog.pure_eq_ret]
  refine thn (step_send m ρ K c 13 13 14 6 rfl rfl rfl (tdev13 c) (toff13 c) rfl rfl) ?_
  refine thn (step_recv m ρ K c 6 14 6 7 rfl rfl (by decide) (by decide) rfl) ?_
  exact fin _

theorem part15 (v2 : BitVec 32) (v19 : BitVec 32) (v34 : BitVec 32) (v71 : BitVec 32) (v412 : BitVec 32) (v415 : BitVec 32) (v423 : BitVec 32) : St m ρ K c 14 7 0 ⊢ wpc c (k0_part15 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v2 v19 v34 v71 v412 v415 v423) fun _ => St m ρ K c 15 8 0 := by
  rw [k0_part15_eq_skeleton]; unfold k0_part15_skel wpc
  simp only [Prog.lift, Prog.bind_op, Prog.bind_ret, Prog.pure_eq_ret]
  refine thn (step_send m ρ K c 14 14 15 7 rfl rfl rfl (tdev14 c) (toff14 c) rfl rfl) ?_
  refine thn (step_recv m ρ K c 7 15 7 8 rfl rfl (by decide) (by decide) rfl) ?_
  exact fin _

theorem part16 (v2 : BitVec 32) (v52 : BitVec 32) (v449 : BitVec 32) (v452 : BitVec 32) (v453 : BitVec 1) (c1_i32_401 : BitVec 32) : St m ρ K c 15 8 0 ⊢ wpc c (k0_part16 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v2 v52 v449 v452 v453 c1_i32_401) fun _ => St m ρ K c 16 9 0 := by
  rw [k0_part16_eq_skeleton]; unfold k0_part16_skel wpc
  simp only [Prog.lift, Prog.bind_op, Prog.bind_ret, Prog.pure_eq_ret]
  refine thn (step_send m ρ K c 15 15 16 8 rfl rfl rfl (tdev15 c) (toff15 c) rfl rfl) ?_
  refine thn (step_recv m ρ K c 8 16 8 9 rfl rfl (by decide) (by decide) rfl) ?_
  exact fin _

theorem part17 (v19 : BitVec 32) (v34 : BitVec 32) (v71 : BitVec 32) (c1_i32_429 : BitVec 32) : St m ρ K c 16 9 0 ⊢ wpc c (k0_part17 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v19 v34 v71 c1_i32_429) fun _ => St m ρ K c 17 9 0 := by
  rw [k0_part17_eq_skeleton]; unfold k0_part17_skel wpc
  simp only [Prog.lift, Prog.bind_op, Prog.bind_ret, Prog.pure_eq_ret]
  refine thn (step_send m ρ K c 16 16 17 9 rfl rfl rfl (tdev16 c) (toff16 c) rfl rfl) ?_
  exact fin _

theorem part18 (v2 : BitVec 32) (v19 : BitVec 32) (v34 : BitVec 32) : St m ρ K c 17 9 0 ⊢ wpc c (k0_part18 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v2 v19 v34) fun _ => St m ρ K c 17 10 0 := by
  rw [k0_part18_eq_skeleton]; unfold k0_part18_skel wpc
  simp only [Prog.lift, Prog.bind_op, Prog.bind_ret, Prog.pure_eq_ret]
  refine thn (step_recv m ρ K c 9 17 9 10 rfl rfl (by decide) (by decide) rfl) ?_
  exact fin _

theorem part19 (v2 : BitVec 32) (v19 : BitVec 32) (v34 : BitVec 32) (v52 : BitVec 32) : St m ρ K c 17 10 0 ⊢ wpc c (k0_part19 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v2 v19 v34 v52) fun _ => St m ρ K c 18 11 0 := by
  rw [k0_part19_eq_skeleton]; unfold k0_part19_skel wpc
  simp only [Prog.lift, Prog.bind_op, Prog.bind_ret, Prog.pure_eq_ret]
  refine thn (step_send m ρ K c 17 17 18 10 rfl rfl rfl (tdev17 c) (toff17 c) rfl rfl) ?_
  refine thn (step_recv m ρ K c 10 18 10 11 rfl rfl (by decide) (by decide) rfl) ?_
  exact fin _

theorem part20 (v2 : BitVec 32) (v19 : BitVec 32) (v34 : BitVec 32) (v71 : BitVec 32) (v560 : BitVec 32) (v563 : BitVec 32) (v573 : BitVec 32) : St m ρ K c 18 11 0 ⊢ wpc c (k0_part20 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v2 v19 v34 v71 v560 v563 v573) fun _ => St m ρ K c 19 12 0 := by
  rw [k0_part20_eq_skeleton]; unfold k0_part20_skel wpc
  simp only [Prog.lift, Prog.bind_op, Prog.bind_ret, Prog.pure_eq_ret]
  refine thn (step_send m ρ K c 18 18 19 11 rfl rfl rfl (tdev18 c) (toff18 c) rfl rfl) ?_
  refine thn (step_recv m ρ K c 11 19 11 12 rfl rfl (by decide) (by decide) rfl) ?_
  exact fin _

theorem part21 (v2 : BitVec 32) (v19 : BitVec 32) (v52 : BitVec 32) (v597 : BitVec 32) (v600 : BitVec 32) (v602 : BitVec 32) (v603 : BitVec 1) : St m ρ K c 19 12 0 ⊢ wpc c (k0_part21 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v2 v19 v52 v597 v600 v602 v603) fun _ => St m ρ K c 20 13 0 := by
  rw [k0_part21_eq_skeleton]; unfold k0_part21_skel wpc
  simp only [Prog.lift, Prog.bind_op, Prog.bind_ret, Prog.pure_eq_ret]
  refine thn (step_send m ρ K c 19 19 20 12 rfl rfl rfl (tdev19 c) (toff19 c) rfl rfl) ?_
  refine thn (step_recv m ρ K c 12 20 12 13 rfl rfl (by decide) (by decide) rfl) ?_
  exact fin _

theorem part22 (v2 : BitVec 32) (v34 : BitVec 32) (v71 : BitVec 32) (v633 : BitVec 32) (c8_i32_570 : BitVec 32) : St m ρ K c 20 13 0 ⊢ wpc c (k0_part22 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v2 v34 v71 v633 c8_i32_570) fun _ => St m ρ K c 21 13 0 := by
  rw [k0_part22_eq_skeleton]; unfold k0_part22_skel wpc
  simp only [Prog.lift, Prog.bind_op, Prog.bind_ret, Prog.pure_eq_ret]
  refine thn (step_send m ρ K c 20 20 21 13 rfl rfl rfl (tdev20 c) (toff20 c) rfl rfl) ?_
  exact fin _

theorem part23 (v19 : BitVec 32) (v34 : BitVec 32) (v52 : BitVec 32) (v663 : BitVec 32) : St m ρ K c 21 13 0 ⊢ wpc c (k0_part23 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v19 v34 v52 v663) fun _ => St m ρ K c 21 14 0 := by
  rw [k0_part23_eq_skeleton]; unfold k0_part23_skel wpc
  simp only [Prog.lift, Prog.bind_op, Prog.bind_ret, Prog.pure_eq_ret]
  refine thn (step_recv m ρ K c 13 21 13 14 rfl rfl (by decide) (by decide) rfl) ?_
  exact fin _

theorem part24 (v2 : BitVec 32) (v19 : BitVec 32) (v34 : BitVec 32) (v692 : BitVec 32) (c0_i32_628 : BitVec 32) : St m ρ K c 21 14 0 ⊢ wpc c (k0_part24 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v2 v19 v34 v692 c0_i32_628) fun _ => St m ρ K c 22 15 0 := by
  rw [k0_part24_eq_skeleton]; unfold k0_part24_skel wpc
  simp only [Prog.lift, Prog.bind_op, Prog.bind_ret, Prog.pure_eq_ret]
  refine thn (step_send m ρ K c 21 21 22 14 rfl rfl rfl (tdev21 c) (toff21 c) rfl rfl) ?_
  refine thn (step_recv m ρ K c 14 22 14 15 rfl rfl (by decide) (by decide) rfl) ?_
  exact fin _

theorem part25 (v2 : BitVec 32) (v19 : BitVec 32) (v34 : BitVec 32) (v71 : BitVec 32) (v708 : BitVec 32) (v711 : BitVec 32) (v723 : BitVec 32) : St m ρ K c 22 15 0 ⊢ wpc c (k0_part25 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v2 v19 v34 v71 v708 v711 v723) fun _ => St m ρ K c 23 16 0 := by
  rw [k0_part25_eq_skeleton]; unfold k0_part25_skel wpc
  simp only [Prog.lift, Prog.bind_op, Prog.bind_ret, Prog.pure_eq_ret]
  refine thn (step_send m ρ K c 22 22 23 15 rfl rfl rfl (tdev22 c) (toff22 c) rfl rfl) ?_
  refine thn (step_recv m ρ K c 15 23 15 16 rfl rfl (by decide) (by decide) rfl) ?_
  exact fin _

theorem part26 (v2 : BitVec 32) (v19 : BitVec 32) (v34 : BitVec 32) (v52 : BitVec 32) (v745 : BitVec 32) (v748 : BitVec 32) (v752 : BitVec 32) (v753 : BitVec 1) : St m ρ K c 23 16 0 ⊢ wpc c (k0_part26 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v2 v19 v34 v52 v745 v748 v752 v753) fun _ => St m ρ K c 24 17 0 := by
  rw [k0_part26_eq_skeleton]; unfold k0_part26_skel wpc
  simp only [Prog.lift, Prog.bind_op, Prog.bind_ret, Prog.pure_eq_ret]
  refine thn (step_send m ρ K c 23 23 24 16 rfl rfl rfl (tdev23 c) (toff23 c) rfl rfl) ?_
  refine thn (step_recv m ρ K c 16 24 16 17 rfl rfl (by decide) (by decide) rfl) ?_
  exact fin _

theorem part27 (v2 : BitVec 32) (v71 : BitVec 32) (v782 : BitVec 32) (v783 : BitVec 32) (c2_i32_710 : BitVec 32) : St m ρ K c 24 17 0 ⊢ wpc c (k0_part27 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v2 v71 v782 v783 c2_i32_710) fun _ => St m ρ K c 25 17 0 := by
  rw [k0_part27_eq_skeleton]; unfold k0_part27_skel wpc
  simp only [Prog.lift, Prog.bind_op, Prog.bind_ret, Prog.pure_eq_ret]
  refine thn (step_send m ρ K c 24 24 25 17 rfl rfl rfl (tdev24 c) (toff24 c) rfl rfl) ?_
  exact fin _

theorem part28 (v19 : BitVec 32) (v34 : BitVec 32) (v52 : BitVec 32) : St m ρ K c 25 17 0 ⊢ wpc c (k0_part28 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v19 v34 v52) fun _ => St m ρ K c 25 18 0 := by
  rw [k0_part28_eq_skeleton]; unfold k0_part28_skel wpc
  simp only [Prog.lift, Prog.bind_op, Prog.bind_ret, Prog.pure_eq_ret]
  refine thn (step_recv m ρ K c 17 25 17 18 rfl rfl (by decide) (by decide) rfl) ?_
  exact fin _

theorem part29 (v2 : BitVec 32) (v19 : BitVec 32) (v34 : BitVec 32) : St m ρ K c 25 18 0 ⊢ wpc c (k0_part29 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v2 v19 v34) fun _ => St m ρ K c 26 19 0 := by
  rw [k0_part29_eq_skeleton]; unfold k0_part29_skel wpc
  simp only [Prog.lift, Prog.bind_op, Prog.bind_ret, Prog.pure_eq_ret]
  refine thn (step_send m ρ K c 25 25 26 18 rfl rfl rfl (tdev25 c) (toff25 c) rfl rfl) ?_
  refine thn (step_recv m ρ K c 18 26 18 19 rfl rfl (by decide) (by decide) rfl) ?_
  exact fin _

theorem part30 (v2 : BitVec 32) (v19 : BitVec 32) (v34 : BitVec 32) (v71 : BitVec 32) (v856 : BitVec 32) (v873 : BitVec 32) : St m ρ K c 26 19 0 ⊢ wpc c (k0_part30 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v2 v19 v34 v71 v856 v873) fun _ => St m ρ K c 27 20 0 := by
  rw [k0_part30_eq_skeleton]; unfold k0_part30_skel wpc
  simp only [Prog.lift, Prog.bind_op, Prog.bind_ret, Prog.pure_eq_ret]
  refine thn (step_send m ρ K c 26 26 27 19 rfl rfl rfl (tdev26 c) (toff26 c) rfl rfl) ?_
  refine thn (step_recv m ρ K c 19 27 19 20 rfl rfl (by decide) (by decide) rfl) ?_
  exact fin _

theorem part31 (v2 : BitVec 32) (v52 : BitVec 32) (v893 : BitVec 32) (v896 : BitVec 32) (v902 : BitVec 32) (v903 : BitVec 1) : St m ρ K c 27 20 0 ⊢ wpc c (k0_part31 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v2 v52 v893 v896 v902 v903) fun _ => St m ρ K c 28 22 0 := by
  rw [k0_part31_eq_skeleton]; unfold k0_part31_skel wpc
  simp only [Prog.lift, Prog.bind_op, Prog.bind_ret, Prog.pure_eq_ret]
  refine thn (step_send m ρ K c 27 27 28 20 rfl rfl rfl (tdev27 c) (toff27 c) rfl rfl) ?_
  refine thn (step_recv m ρ K c 20 28 20 21 rfl rfl (by decide) (by decide) rfl) ?_
  refine thn (step_recv m ρ K c 21 28 21 22 rfl rfl (by decide) (by decide) rfl) ?_
  exact fin _

theorem part32 (v19 : BitVec 32) (v34 : BitVec 32) (v52 : BitVec 32) : St m ρ K c 28 22 0 ⊢ wpc c (k0_part32 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v19 v34 v52) fun _ => St m ρ K c 28 22 0 := by
  rw [k0_part32_eq_skeleton]; unfold k0_part32_skel wpc
  simp only [Prog.lift, Prog.bind_op, Prog.bind_ret, Prog.pure_eq_ret]
  exact fin _

theorem part33 (v2 : BitVec 32) (v19 : BitVec 32) (v34 : BitVec 32) : St m ρ K c 28 22 0 ⊢ wpc c (k0_part33 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v2 v19 v34) fun _ => St m ρ K c 29 25 0 := by
  rw [k0_part33_eq_skeleton]; unfold k0_part33_skel wpc
  simp only [Prog.lift, Prog.bind_op, Prog.bind_ret, Prog.pure_eq_ret]
  refine thn (step_send m ρ K c 28 28 29 22 rfl rfl rfl (tdev28 c) (toff28 c) rfl rfl) ?_
  refine thn (step_recv m ρ K c 22 29 22 23 rfl rfl (by decide) (by decide) rfl) ?_
  refine thn (step_recv m ρ K c 23 29 23 24 rfl rfl (by decide) (by decide) rfl) ?_
  refine thn (step_recv m ρ K c 24 29 24 25 rfl rfl (by decide) (by decide) rfl) ?_
  exact fin _

theorem part34 (v2 : BitVec 32) (v71 : BitVec 32) (v985 : BitVec 32) (v988 : BitVec 32) (v990 : BitVec 32) (v991 : BitVec 1) (c2_i32_905 : BitVec 32) : St m ρ K c 29 25 0 ⊢ wpc c (k0_part34 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v2 v71 v985 v988 v990 v991 c2_i32_905) fun _ => St m ρ K c 30 26 0 := by
  rw [k0_part34_eq_skeleton]; unfold k0_part34_skel wpc
  simp only [Prog.lift, Prog.bind_op, Prog.bind_ret, Prog.pure_eq_ret]
  refine thn (step_send m ρ K c 29 29 30 25 rfl rfl rfl (tdev29 c) (toff29 c) rfl rfl) ?_
  refine thn (step_recv m ρ K c 25 30 25 26 rfl rfl (by decide) (by decide) rfl) ?_
  exact fin _

theorem part35 (v19 : BitVec 32) (v34 : BitVec 32) (v71 : BitVec 32) : St m ρ K c 30 26 0 ⊢ wpc c (k0_part35 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v19 v34 v71) fun _ => St m ρ K c 30 27 0 := by
  rw [k0_part35_eq_skeleton]; unfold k0_part35_skel wpc
  simp only [Prog.lift, Prog.bind_op, Prog.bind_ret, Prog.pure_eq_ret]
  refine thn (step_recv m ρ K c 26 30 26 27 rfl rfl (by decide) (by decide) rfl) ?_
  exact fin _

theorem part36 (v2 : BitVec 32) : St m ρ K c 30 27 0 ⊢ wpc c (k0_part36 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v2) fun _ => St m ρ K c 31 31 0 := by
  rw [k0_part36_eq_skeleton]; unfold k0_part36_skel wpc
  simp only [Prog.lift, Prog.bind_op, Prog.bind_ret, Prog.pure_eq_ret]
  refine thn (step_send m ρ K c 30 30 31 27 rfl rfl rfl (tdev30 c) (toff30 c) rfl rfl) ?_
  refine thn (step_recv m ρ K c 27 31 27 28 rfl rfl (by decide) (by decide) rfl) ?_
  refine thn (step_recv m ρ K c 29 31 28 29 rfl rfl (by decide) (by decide) rfl) ?_
  refine thn (step_recv m ρ K c 28 31 29 30 rfl rfl (by decide) (by decide) rfl) ?_
  refine thn (step_recv m ρ K c 30 31 30 31 rfl rfl (by decide) (by decide) rfl) ?_
  exact fin _

theorem part38  : St m ρ K c 31 31 4 ⊢ wpc c (k0_part38 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c ) fun _ => St m ρ K c 31 31 10 := by
  rw [k0_part38_eq_skeleton]; unfold k0_part38_skel wpc
  simp only [Prog.lift, Prog.bind_op, Prog.bind_ret, Prog.pure_eq_ret]
  refine thn (step_swait m ρ K c 4 4 5 rfl rfl rfl) ?_
  refine thn (step_swait m ρ K c 5 5 6 rfl rfl rfl) ?_
  refine thn (step_swait m ρ K c 6 6 7 rfl rfl rfl) ?_
  refine thn (step_swait m ρ K c 7 7 8 rfl rfl rfl) ?_
  refine thn (step_swait m ρ K c 8 8 9 rfl rfl rfl) ?_
  refine thn (step_swait m ρ K c 9 9 10 rfl rfl rfl) ?_
  exact fin _

theorem part39  : St m ρ K c 31 31 10 ⊢ wpc c (k0_part39 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c ) fun _ => St m ρ K c 31 31 16 := by
  rw [k0_part39_eq_skeleton]; unfold k0_part39_skel wpc
  simp only [Prog.lift, Prog.bind_op, Prog.bind_ret, Prog.pure_eq_ret]
  refine thn (step_swait m ρ K c 10 10 11 rfl rfl rfl) ?_
  refine thn (step_swait m ρ K c 11 11 12 rfl rfl rfl) ?_
  refine thn (step_swait m ρ K c 12 12 13 rfl rfl rfl) ?_
  refine thn (step_swait m ρ K c 13 13 14 rfl rfl rfl) ?_
  refine thn (step_swait m ρ K c 14 14 15 rfl rfl rfl) ?_
  refine thn (step_swait m ρ K c 15 15 16 rfl rfl rfl) ?_
  exact fin _

theorem part40  : St m ρ K c 31 31 16 ⊢ wpc c (k0_part40 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c ) fun _ => St m ρ K c 31 31 22 := by
  rw [k0_part40_eq_skeleton]; unfold k0_part40_skel wpc
  simp only [Prog.lift, Prog.bind_op, Prog.bind_ret, Prog.pure_eq_ret]
  refine thn (step_swait m ρ K c 16 16 17 rfl rfl rfl) ?_
  refine thn (step_swait m ρ K c 17 17 18 rfl rfl rfl) ?_
  refine thn (step_swait m ρ K c 18 18 19 rfl rfl rfl) ?_
  refine thn (step_swait m ρ K c 19 19 20 rfl rfl rfl) ?_
  refine thn (step_swait m ρ K c 20 20 21 rfl rfl rfl) ?_
  refine thn (step_swait m ρ K c 21 21 22 rfl rfl rfl) ?_
  exact fin _

theorem part41  : St m ρ K c 31 31 22 ⊢ wpc c (k0_part41 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c ) fun _ => St m ρ K c 31 31 28 := by
  rw [k0_part41_eq_skeleton]; unfold k0_part41_skel wpc
  simp only [Prog.lift, Prog.bind_op, Prog.bind_ret, Prog.pure_eq_ret]
  refine thn (step_swait m ρ K c 22 22 23 rfl rfl rfl) ?_
  refine thn (step_swait m ρ K c 23 23 24 rfl rfl rfl) ?_
  refine thn (step_swait m ρ K c 24 24 25 rfl rfl rfl) ?_
  refine thn (step_swait m ρ K c 25 25 26 rfl rfl rfl) ?_
  refine thn (step_swait m ρ K c 26 26 27 rfl rfl rfl) ?_
  refine thn (step_swait m ρ K c 27 27 28 rfl rfl rfl) ?_
  exact fin _

end Parts

end Cert.AllGather

end
-- ==== Proof.Buffer.lean ====
/- The gathering buffer as a whole and as its row blocks: dealt out to the neighbours at the start, read whole for the
   product, and put together again at the end. -/
module

public import proofs.«01_k».proof.Proof.Middle

@[expose] public section

set_option maxRecDepth 16384

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Device `c` holds its gathering buffer whole. -/
def gxPts (c : Dev nD) (q : PosShare TreeShare) (f : (cc0_scratch0 : Ref sig .tc).ty.Contents (Elt F)) : sProp 𝕄 :=
  ((c : Thread nD τ).loc cc0_scratch0) ↦{q} f

omit [FloatOps F] in
theorem gx_blocks (c : Dev nD) (q : PosShare TreeShare) (f : (cc0_scratch0 : Ref sig .tc).ty.Contents (Elt F)) :
    (gxPts c q f : sProp 𝕄) = bigSep Finset.univ fun o : Dev nD => slotPts c o q f :=
  by
  unfold gxPts slotPts
  have h : (((c : Thread nD τ).loc cc0_scratch0) ↦[(Finset.univ : Finset (Dev nD)).biUnion rows]{q} f : sProp 𝕄)
      = bigSep Finset.univ fun o => ((c : Thread nD τ).loc cc0_scratch0) ↦[rows o]{q} f :=
    pointsTo_biUnion _ _ (fun o _ o' _ h => rows_disj h)
  rw [← h]
  exact congrArg (fun S => (((c : Thread nD τ).loc cc0_scratch0) ↦[S]{q} f : sProp 𝕄)) rows_cover.symm

/-- Every device's rows come to a device by exactly one of its own row block and its thirty-one arrivals. -/
def ownerEquiv (c : Dev nD) : Slot ≃ Dev nD :=
  Equiv.ofBijective (owner c) ((Fintype.bijective_iff_injective_and_card _).mpr ⟨owner_inj c, by decide⟩)

omit [FloatOps F] in
theorem gx_slots (c : Dev nD) (q : PosShare TreeShare) (f : (cc0_scratch0 : Ref sig .tc).ty.Contents (Elt F)) :
    (gxPts c q f : sProp 𝕄) = bigSep Finset.univ fun a : Slot => slotPts c (owner c a) q f := by
  rw [gx_blocks, bigSep_univ_equiv (ownerEquiv c)]; rfl

omit [FloatOps F] in
/-- The family over `none` and the thirty-one others. -/
theorem univ_slot (Φ : Slot → sProp 𝕄) : bigSep Finset.univ Φ = iprop(Φ none ∗ bigSep Finset.univ fun t : Fin 31 => Φ (some t)) := by
  rw [show (Finset.univ : Finset Slot) = insert none (Finset.univ.map Function.Embedding.some) from rfl, ins (by simp)]
  congr 1

omit [FloatOps F] in
/-- The buffer with arbitrary contents: a device's own rows, and for each neighbour the row blocks it will send into. -/
theorem gx_grants (c : Dev nD) (f : (cc0_scratch0 : Ref sig .tc).ty.Contents (Elt F)) :
    (gxPts c fullShare f : sProp 𝕄) ⊢ iprop(slotPts c c fullShare f ∗ bigSep Finset.univ fun k : Fin 5 => grant (F := F) (sgt k c) k) := by
  rw [gx_slots, univ_slot]
  refine sep_mono_right ?_
  rw [bigSep_fiberwise Finset.univ bk, show Finset.univ.image bk = (Finset.univ : Finset (Fin 5)) by decide]
  refine bigSep_mono fun k _ => ?_
  unfold grant
  refine bigSep_mono fun t ht => ?_
  have hk : bk t = k := (Finset.mem_filter.mp ht).2
  have h1 : tgt t (sgt k c) = c := by rw [← hk]; exact tgt_sgt t c
  have h2 : org t (sgt k c) = owner c (some t) := by rw [← owner_tgt, h1]
  show slotPts c (owner c (some t)) fullShare f ⊢ (iprop(∃ f, slotPts (tgt t (sgt k c)) (org t (sgt k c)) fullShare f) : sProp 𝕄)
  rw [h1, h2]
  iintro H; iexists f; iexact H

omit [FloatOps F] in
/-- What is kept of all the row blocks holds the whole buffer at the share kept for its read. -/
theorem kept_all (c : Dev nD) :
    bigSep Finset.univ (kept m ρ c) = iprop(gxPts c keepQ (gath m ρ) ∗ bigSep Finset.univ fun a : Slot =>
      bigSep (Finset.univ.filter fun t : Fin 31 => ¬ srcOf t = a) fun t => slotPts c (owner c a) (tokQ t) (gath m ρ)) := by
  rw [gx_slots]; exact bigSep_sep' _ _ _

omit [FloatOps F] in
/-- With every share back, the buffer is held outright. -/
theorem gx_back (c : Dev nD) : iprop(bigSep Finset.univ (kept m ρ c) ∗ bigSep Finset.univ (piece m ρ c)) ⊢ (gxPts c fullShare (gath m ρ) : sProp 𝕄) := by
  have e : bigSep Finset.univ (piece m ρ c) = bigSep Finset.univ fun a : Slot => bigSep (Finset.univ.filter fun t : Fin 31 => srcOf t = a) (piece m ρ c) := by
    rw [← bigSep_biUnion_eq Finset.univ (fun a : Slot => Finset.univ.filter fun t : Fin 31 => srcOf t = a) (piece m ρ c)
      (fun a _ b _ h => Finset.disjoint_filter.mpr fun t _ h1 h2 => h (h1.symm.trans h2))]
    congr 1
    ext t; simp
  rw [e, ← bigSep_sep', gx_slots]
  exact bigSep_mono fun a _ => (slot_split m ρ c a).2

/-! ## A device's own rows -/

omit [FloatOps F] in
/-- The rows of `gath` at device `o` are what that device has staged. -/
theorem read_gath (o : Dev nD) : (slotM o).view.read (Elt F) (gath m ρ) = xstg m ρ o := by
  funext j
  have hj : (j 0).val < 32 := (j 0).isLt
  show gath m ρ ((rowR o).emb j) = _
  have e0 : (((rowR o).emb j) 0).val = 32 * o.val + (j 0).val := by show 32 * o.val + 1 * (j 0).val = _; omega
  have e1 : (((rowR o).emb j) 1).val = (j 1).val := by show 0 + 1 * (j 1).val = _; omega
  have hd : rowDev ((rowR o).emb j) = o := Fin.ext (by show (((rowR o).emb j) 0).val / 32 = _; omega)
  have hr : inRow ((rowR o).emb j) = j := by
    funext a
    match a with
    | ⟨0, _⟩ => exact Fin.ext (by show (((rowR o).emb j) 0).val % 32 = (j 0).val; omega)
    | ⟨1, _⟩ => exact Fin.ext e1
  unfold gath
  rw [hd, hr]

end Cert.AllGather

end
-- ==== Proof.Entry.lean ====
/- How a device enters: it signals its five neighbours, waits for its own five signals, and puts its own rows in place. -/
module

public import proofs.«01_k».proof.Proof.Middle
public import proofs.«01_k».proof.Proof.Buffer
public import Idealize.ShloMosaic.Lib.Pipeline.Value

@[expose] public section

set_option maxRecDepth 16384

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The entry: the five signals, the wait for five, the device's own rows -/

omit [FloatOps F] in
/-- One step followed by the rest, with resources set aside. -/
theorem thnF {P P' R X Fr : sProp 𝕄} (h : P ⊢ iprop((P' -∗ R) -∗ X)) (k : iprop(P' ∗ Fr) ⊢ R) : iprop(P ∗ Fr) ⊢ X := by
  iintro ⟨H, HF⟩
  iapply h $$ H
  iintro H
  iapply k
  isplitl [H] <;> iassumption

/-- A device's two duties for every transfer. -/
def toks (c : Dev nD) : sProp 𝕄 :=
  bigSep Finset.univ fun t : Fin 31 => iprop(dutyTok ER (recvCell (tgt t c) t) 0 0 ∗ dutyTok ER (sendCell c t) 0 0)

/-- Device `c` with `i` signals sent. -/
def Sg (K : Dev nD × CIx → ℕ) (c : Dev nD) (i : ℕ) : sProp 𝕄 :=
  iprop(records m ρ K ∗ levAts L lv ∗ (∃ W, owes (c : Thread nD τ) (oweT c 0 + oweB c i) W)
    ∗ bigSep (Finset.univ.filter fun k : Fin 5 => i ≤ k.val) fun k => iprop(dutyTok ER (barCell (sgt k c)) 0 k ∗ grant (sgt k c) k))

section Entry
variable (K : Dev nD × CIx → ℕ) (c : Dev nD)

theorem step_sig (k : Fin 5) (i i' : ℕ) (hi : i = k.val) (hi' : i' = k.val + 1) {n : Dev nD} (hn : n = sgt k c) {a : ℕ} (ha : a = 1)
    {α : Type} {Q : α → sProp 𝕄} {kk : PUnit → Prog (TpuEff nD τ sig (Elt F) Λ₀ .tc) α} :
    Sg m ρ K c i ⊢ iprop((Sg m ρ K c i' -∗ wpc c (kk ⟨⟩) Q) -∗ wpc c (.op (.semSignal (n : Thread nD τ) barS a) kk) Q) := by
  subst hi hi' hn ha
  unfold Sg wpc
  rw [show (Finset.univ.filter fun k' : Fin 5 => k.val ≤ k'.val) = insert k (Finset.univ.filter fun k' : Fin 5 => k.val + 1 ≤ k'.val) by
      ext t'; simp only [Finset.mem_filter, Finset.mem_univ, _root_.true_and, Finset.mem_insert, Fin.ext_iff]; omega,
    ins (by simp), oweB_succ, ← add_assoc]
  iintro ⟨#HR, #Hlev, ⟨%W, HO⟩, ⟨Ht, Hg⟩, Hrest⟩ Hk
  iapply (Rounds.wp_signal 𝒱₀ ER (Rd m ρ) (c : Thread nD τ) none (dst := (sgt k c : Thread nD τ)) (κ := K (sgt k c, none))
      (d := k) (by rw [duties_bar]; exact Finset.mem_univ _) (amount_bar m ρ (sgt k c) k) () (oweT c 0 + oweB c (k.val + 1)) rfl)
    $$ [HO Ht Hg]
  · isplitr; · iapply (inv_bar m ρ K (sgt k c)); iexact HR
    isplitl [HO]; · iexact HO
    isplitl [Ht]; · iexact Ht
    isplitl [Hg]; · rw [payload_bar]; iexact Hg
    iapply (reached_bar m ρ K (sgt k c)); iexact HR
  iintro HO
  iapply Hk
  isplitr; · iexact HR
  isplitr; · iexact Hlev
  isplitl [HO]; · iexists W; iexact HO
  iexact Hrest

/-- Past the barrier: every row block the device will send into is its own to write. -/
def Sb : sProp 𝕄 :=
  iprop(records m ρ K ∗ levAts L lv ∗ (∃ W, owes (c : Thread nD τ) (oweT c 0) W)
    ∗ (bigSep Finset.univ fun t : Fin 31 => iprop(∃ f, slotPts (F := F) (tgt t c) (org t c) fullShare f)) ∗ semVal (barCell c) 0)

theorem step_bar {a : ℕ} (ha : a = 5) {α : Type} {Q : α → sProp 𝕄} {kk : PUnit → Prog (TpuEff nD τ sig (Elt F) Λ₀ .tc) α} :
    iprop(Sg m ρ K c 5 ∗ atPos ER (barCell c) 0 ∅ 0 ∗ cred (tallyAt (barCell c) () 5))
      ⊢ iprop((Sb m ρ K c -∗ wpc c (kk ⟨⟩) Q) -∗ wpc c (.op (.semWait barS a) kk) Q) := by
  subst ha
  unfold Sg Sb wpc
  rw [oweB_end, add_zero]
  iintro ⟨⟨#HR, #Hlev, ⟨%W, HO⟩, -⟩, HatB, HcB⟩ Hk
  ihave #HI := (inv_bar m ρ K c) $$ HR
  iapply (Rounds.wp_wait_rest_token 𝒱₀ ER (Rd m ρ) (c : Thread nD τ) none (κ := K (c, none))
      (wpE_semWait_eq 𝒱₀ (c : Thread nD τ) none Set.univ) (Set.mem_univ _) () (O := oweT c 0) (W := W) (R := 0) (m := 0) (T := ∅)
      (by rw [expect_bar])) $$ [HcB HO HatB]
  · isplitr; · iexact HI
    isplitl [HcB]; · iexact HcB
    isplitl [HO]; · iexact HO
    isplitr; · iapply (mayWait_bar c); iexact Hlev
    iexact HatB
  iintro ⟨HO, HatB, -, Hpay⟩
  ihave Hp := (Entails.of_eq (rest_bar m ρ c)) $$ Hpay
  imod (Rounds.cell_close ER (Rd m ρ) (Set.mem_univ (K (c, none))) (fun h => h) (R := 0 + 1) (duties_later m ρ (barCell c))) $$ [HatB] with HzB
  · isplitr; · iexact HI
    iexact HatB
  iapply Hk
  isplitr; · iexact HR
  isplitr; · iexact Hlev
  isplitl [HO]; · iexists _; iexact HO
  isplitl [Hp] <;> iassumption

/-- The device's own staged rows, written into its gathering buffer, and every transfer paid for: the state before the first transfer. -/
theorem to_St : iprop(Sb m ρ K c ∗ slotPts c c fullShare (gath m ρ) ∗ toks c ∗ bigSep Finset.univ (rpk c)
      ∗ bigSep Finset.univ fun t : Fin 31 => atPos ER (sendCell c t) 0 ∅ 0)
    ⊢ iprop(St m ρ K c 0 0 0 ∗ semVal (barCell c) 0) := by
  unfold St Sb
  have e0 : (Finset.univ.filter fun t : Fin 31 => 0 ≤ t.val) = Finset.univ := by decide
  have e1 : (Finset.univ.filter fun t : Fin 31 => 0 ≤ rank t) = Finset.univ := by decide
  have e2 : (Finset.univ.filter fun t : Fin 31 => rank t < 0) = ∅ := by decide
  have e3 : (Finset.univ.filter fun t : Fin 31 => 0 ≤ t.val ∧ t.val < 0) = ∅ := by decide
  have e4 : (Finset.univ.filter fun t : Fin 31 => t.val < 0) = ∅ := by decide
  have e5 : acq 0 = {none} := by decide
  have e6 : act 0 0 0 = Finset.univ.filter fun t : Fin 31 => srcOf t = none := by decide
  have hp : iprop(toks c ∗ bigSep Finset.univ fun t : Fin 31 => iprop(∃ f, slotPts (F := F) (tgt t c) (org t c) fullShare f))
      ⊢ (bigSep Finset.univ (pkg c) : sProp 𝕄) := Entails.of_eq (bigSep_sep' _ _ _).symm
  have hs : (slotPts c c fullShare (gath m ρ) : sProp 𝕄)
      ⊢ iprop(kept m ρ c none ∗ bigSep (Finset.univ.filter fun t : Fin 31 => srcOf t = none) (piece m ρ c)) := (slot_split m ρ c none).1
  rw [e0, e1, e2, e3, e4, e5, e6, bigSep_empty, bigSep_empty, bigSep_empty, bigSep_singleton]
  iintro ⟨⟨#HR, #Hlev, HO, Hd, HzB⟩, Hown, Htok, Hrp, Hat⟩
  ihave Hown := hs $$ Hown
  icases Hown with ⟨Hkp, Hpc⟩
  isplitr [HzB]
  · isplitr; · iexact HR
    isplitr; · iexact Hlev
    isplitl [HO]; · iexact HO
    isplitl [Htok Hd]
    · iapply hp; isplitl [Htok] <;> iassumption
    isplitl [Hrp]; · iexact Hrp
    isplitr; · iempintro
    isplitr; · iempintro
    isplitl [Hat]; · iexact Hat
    isplitr; · iempintro
    isplitl [Hkp] <;> iassumption
  iexact HzB

end Entry

/-- Device `c` holds its staged blocks and its output block. -/
def xPts (c : Dev nD) : sProp 𝕄 := ((c : Thread nD τ).loc cc0_stg0_0) ↦{fullShare} (xstg m ρ c)
def wPts (c : Dev nD) : sProp 𝕄 := ((c : Thread nD τ).loc cc0_stg1_0) ↦{fullShare} (wstg m ρ c)
def oPts (c : Dev nD) (f : (cc0_stg2_0 : Ref sig .tc).ty.Contents (Elt F)) : sProp 𝕄 := ((c : Thread nD τ).loc cc0_stg2_0) ↦{fullShare} f

abbrev xM : Memref sig .tc .vmem S32x1024 .bf16 := Memref.whole cc0_stg0_0
abbrev wM : Memref sig .tc .vmem S1024x32 .bf16 := Memref.whole cc0_stg1_0
abbrev oM : Memref sig .tc .vmem S1024x32 .f32 := Memref.whole cc0_stg2_0

/-- The offsets of a rectangle that is its whole array. -/
theorem whole_off : (![0, 0] : Fin 2 → Nat) = fun _ => 0 := by decide

theorem pay1_eq (v : Vec F S32x1024 .bf16) : k0_pay1 v = v := by
  unfold k0_pay1; simp only [shapeCast_self]

section Own
variable (K : Dev nD × CIx → ℕ) (c : Dev nD)

theorem step_own {f : (cc0_scratch0 : Ref sig .tc).ty.Contents (Elt F)} {off : Fin 2 → ℕ} (hoff : off = ![32 * c.val, 0])
    {inb : ∀ a, off a + S32x1024.size a ≤ S1024x1024.size a} {hl}
    {w : S32x1024.Idx → Elt F .bf16} (hw : w = xstg m ρ c) {hx hm}
    {α : Type} {Q : α → sProp 𝕄} {kk : PUnit → Prog (TpuEff nD τ sig (Elt F) Λ₀ .tc) α} :
    slotPts c c fullShare f ⊢ iprop((slotPts c c fullShare (gath m ρ) -∗ wpc c (kk ⟨⟩) Q)
      -∗ wpc c (.op (.load gxM (Rect.unit (s := S1024x1024) off S32x1024.size inb).toLoadRect hl) fun _ =>
          .op (.store gxM (Rect.unit (s := S1024x1024) off S32x1024.size inb) w Finset.univ hx hm) kk) Q) := by
  subst hoff hw
  unfold wpc
  rw [slotPts_eq]
  iintro H Hk
  iapply (wp_load_rect 𝒱₀ (c : Thread nD τ) none Set.univ (m := gxM) (r := rowR c) (Finset.Subset.refl _)) $$ H
  iintro H
  iapply (wp_store 𝒱₀ (c : Thread nD τ) none Set.univ (m := gxM) (r := rowR c) (Mk := Finset.univ) (by rw [View.setOn_univ])) $$ H
  iintro H
  iapply Hk
  rw [← read_gath m ρ c]
  iapply (Entails.of_eq (landed_eq c c f (gath m ρ))); iexact H

theorem part3 (v19 v20 v52 v55 v56 v62 : BitVec 32) (v63 : BitVec 1) : Sg m ρ K c 0 ⊢ wpc c (k0_part3 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v19 v20 v52 v55 v56 v62 v63)
      fun x => iprop(⌜x.2.2.2.2 = SemArray.scalar (sig.barrier 0 rfl)⌝ ∗ Sg m ρ K c 3) := by
  rw [k0_part3_eq_skeleton]; unfold k0_part3_skel wpc
  simp only [semSignalWord, semWaitWord, Prog.lift, Prog.bind_op, Prog.bind_ret, Prog.pure_eq_ret]
  refine thn (step_sig m ρ K c 0 0 1 rfl rfl (sdev0 c) rfl) ?_
  refine thn (step_sig m ρ K c 1 1 2 rfl rfl (sdev1 c) rfl) ?_
  refine thn (step_sig m ρ K c 2 2 3 rfl rfl (sdev2 c) rfl) ?_
  iintro H; unfold wpc; rw [wp_ret]; imodintro
  isplitr; · ipureintro; rfl
  iexact H

/-- What part 4 uses besides the signals. -/
def Rest : sProp 𝕄 :=
  iprop((atPos ER (barCell c) 0 ∅ 0 ∗ cred (tallyAt (barCell c) () 5)) ∗ (∃ f, slotPts (F := F) c c fullShare f)
    ∗ (toks c ∗ bigSep Finset.univ (rpk c) ∗ bigSep Finset.univ fun t : Fin 31 => atPos ER (sendCell c t) 0 ∅ 0) ∗ xPts m ρ c)

theorem part4 (v2 v75 v79 v83 : BitVec 32) : iprop(Sg m ρ K c 3 ∗ Rest m ρ c) ⊢ wpc c (k0_part4 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c v2 v75 v79 v83 (SemArray.scalar (sig.barrier 0 rfl)))
      fun _ => iprop(St m ρ K c 2 0 0 ∗ semVal (barCell c) 0 ∗ xPts m ρ c) := by
  rw [k0_part4_eq_skeleton]; unfold k0_part4_skel wpc
  simp only [semSignalWord, semWaitWord, Prog.lift, Prog.bind_op, Prog.bind_ret, Prog.pure_eq_ret]
  refine thnF (step_sig m ρ K c 3 3 4 rfl rfl (sdev3 c) rfl) ?_
  refine thnF (step_sig m ρ K c 4 4 5 rfl rfl (sdev4 c) rfl) ?_
  unfold Rest
  iintro ⟨HS, Hb, ⟨%f, Hown⟩, ⟨Htok, Hrp, Hat⟩, Hx⟩
  iapply (step_bar m ρ K c (by decide)) $$ [HS Hb]
  · isplitl [HS] <;> iassumption
  iintro HS
  unfold xPts wpc
  iapply (wp_load 𝒱₀ (c : Thread nD τ) none Set.univ (m := xM) (Finset.subset_univ _)) $$ Hx; iintro Hx
  iapply (step_own m ρ c (Gen.k0_off1_eq c)
    ((pay1_eq _).trans (Memref.readAt_unit_zero (Elt F) cc0_stg0_0 whole_off _ _))) $$ Hown
  iintro Hown
  ihave HS := (to_St m ρ K c) $$ [HS Hown Htok Hrp Hat]
  · isplitl [HS]; · iexact HS
    isplitl [Hown]; · iexact Hown
    isplitl [Htok]; · iexact Htok
    isplitl [Hrp] <;> iassumption
  icases HS with ⟨HS, Hz⟩
  iapply (step_send m ρ K c 0 0 1 0 rfl rfl rfl (tdev0 c) (toff 0 c (by decide)) rfl rfl) $$ HS
  iintro HS
  iapply (step_send m ρ K c 1 1 2 0 rfl rfl rfl (tdev1 c) (toff 1 c (by decide)) rfl rfl) $$ HS
  iintro HS
  rw [wp_ret]; imodintro
  isplitl [HS]; · iexact HS
  isplitl [Hz] <;> iassumption

end Own

end Cert.AllGather

end
-- ==== Proof.Body.lean ====
/- The body of one device from entry to its last wait: the parts in order. -/
module

public import proofs.«01_k».proof.Proof.Entry

@[expose] public section

set_option maxRecDepth 16384

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body -/

/-- The kernel's result on device `c`: the whole of `x` times its block of `w`. -/
def outAt (c : Dev nD) : (cc0_stg2_0 : Ref sig .tc).ty.Contents (Elt F) := k0_pay2 (gath m ρ) (wstg m ρ c)

/-- A part followed by the rest, with resources set aside, -/
theorem seqF {P P' Fr : sProp 𝕄} {c : Dev nD} {α β : Type} {p : Prog (TpuEff nD τ sig (Elt F) Λ₀ .tc) α}
    {k : α → Prog (TpuEff nD τ sig (Elt F) Λ₀ .tc) β} {Q : β → sProp 𝕄}
    (h : P ⊢ wpc c p fun _ => P') (hk : ∀ x, iprop(P' ∗ Fr) ⊢ wpc c (k x) Q) : iprop(P ∗ Fr) ⊢ wpc c (p >>= k) Q := by
  unfold wpc at *
  have a : iprop(P ∗ Fr) ⊢ wp frame (wpE (defs₀ (F := F)) 𝒱₀ (c : Thread nD τ) none) Set.univ p (fun x => iprop((P') ∗ Fr)) := by
    iintro ⟨H, HF⟩
    iapply (wp_frame_r frame (wpE (defs₀ (F := F)) 𝒱₀ (c : Thread nD τ) none) Set.univ)
    isplitl [H]; · iapply h; iexact H
    iexact HF
  refine a.trans ?_
  rw [wp_bind]
  exact wp_mono _ _ _ fun x => hk x

/-- and where the rest needs to know something of the part's result. -/
theorem seqE {P P' Fr : sProp 𝕄} {c : Dev nD} {α β : Type} {p : Prog (TpuEff nD τ sig (Elt F) Λ₀ .tc) α}
    {k : α → Prog (TpuEff nD τ sig (Elt F) Λ₀ .tc) β} {Q : β → sProp 𝕄}
    (J : α → Prop) (h : P ⊢ wpc c p (fun x => iprop(⌜J x⌝ ∗ P'))) (hk : ∀ x, J x → iprop(P' ∗ Fr) ⊢ wpc c (k x) Q) :
    iprop(P ∗ Fr) ⊢ wpc c (p >>= k) Q := by
  unfold wpc at *
  have a : iprop(P ∗ Fr) ⊢ wp frame (wpE (defs₀ (F := F)) 𝒱₀ (c : Thread nD τ) none) Set.univ p (fun x => iprop((⌜J x⌝ ∗ P') ∗ Fr)) := by
    iintro ⟨H, HF⟩
    iapply (wp_frame_r frame (wpE (defs₀ (F := F)) 𝒱₀ (c : Thread nD τ) none) Set.univ)
    isplitl [H]; · iapply h; iexact H
    iexact HF
  refine a.trans ?_
  rw [wp_bind]
  refine wp_mono _ _ _ fun x => ?_
  show iprop((⌜J x⌝ ∗ P') ∗ Fr) ⊢ _
  iintro ⟨⟨%hx, H⟩, HF⟩
  iapply (hk x hx)
  isplitl [H] <;> iassumption

theorem seqE' {P P' : sProp 𝕄} {c : Dev nD} {α β : Type} {p : Prog (TpuEff nD τ sig (Elt F) Λ₀ .tc) α}
    {k : α → Prog (TpuEff nD τ sig (Elt F) Λ₀ .tc) β} {Q : β → sProp 𝕄}
    (J : α → Prop) (h : P ⊢ wpc c p (fun x => iprop(⌜J x⌝ ∗ P'))) (hk : ∀ x, J x → P' ⊢ wpc c (k x) Q) :
    P ⊢ wpc c (p >>= k) Q := by
  unfold wpc at *
  refine h.trans ?_
  rw [wp_bind]
  refine wp_mono _ _ _ fun x => ?_
  iintro ⟨%hx, H⟩
  iapply (hk x hx); iexact H

theorem asl {A B C R : sProp 𝕄} (h : iprop((A ∗ B) ∗ C) ⊢ R) : iprop(A ∗ B ∗ C) ⊢ R := by
  iintro ⟨H1, H2, H3⟩; iapply h
  isplitr [H3]
  · isplitl [H1] <;> iassumption
  iexact H3
theorem asr {A B C R : sProp 𝕄} (h : iprop(A ∗ B ∗ C) ⊢ R) : iprop((A ∗ B) ∗ C) ⊢ R := by
  iintro ⟨⟨H1, H2⟩, H3⟩; iapply h
  isplitl [H1]; · iexact H1
  isplitl [H2] <;> iassumption

theorem part1 {P : sProp 𝕄} (c : Dev nD) : P ⊢ wpc c (k0_part1 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6) fun x => iprop(⌜x.1 = c⌝ ∗ P) := by
  rw [k0_part1_eq_skeleton]; unfold k0_part1_skel wpc
  simp only [Prog.lift, Prog.bind_op, Prog.bind_ret, Prog.pure_eq_ret, wp_deviceId]
  iintro H; rw [wp_ret]; imodintro
  isplitr; · ipureintro; rfl
  iexact H

theorem part2 {P : sProp 𝕄} (c : Dev nD) (v19 v32 : BitVec 32) (v33 : BitVec 1) (c5 : BitVec 32) :
    P ⊢ wpc c (k0_part2 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 v19 v32 v33 c5) fun _ => P := by
  rw [k0_part2_eq_skeleton]; unfold k0_part2_skel
  simp only [Prog.pure_eq_ret]
  exact fin _

theorem prodIn {A B C D E R : sProp 𝕄} (h : iprop((A ∗ D ∗ E) ∗ B ∗ C) ⊢ R) : iprop(A ∗ (B ∗ C) ∗ D ∗ E) ⊢ R := by
  iintro ⟨H1, ⟨H2, H3⟩, H4, H5⟩; iapply h
  isplitl [H1 H4 H5]
  · isplitl [H1]; · iexact H1
    isplitl [H4] <;> iassumption
  isplitl [H2] <;> iassumption
theorem prodOut {A B C D E R : sProp 𝕄} (h : iprop(A ∗ (B ∗ C) ∗ D ∗ E) ⊢ R) : iprop((A ∗ D ∗ E) ∗ B ∗ C) ⊢ R := by
  iintro ⟨⟨H1, H4, H5⟩, H2, H3⟩; iapply h
  isplitl [H1]; · iexact H1
  isplitl [H2 H3]
  · isplitl [H2] <;> iassumption
  isplitl [H4] <;> iassumption

section Prod
variable (K : Dev nD × CIx → ℕ) (c : Dev nD)

/-- What a device holds besides the read share of the whole buffer once every arrival has been awaited. -/
def StR (w : ℕ) : sProp 𝕄 :=
  iprop(records m ρ K ∗ levAts L lv
    ∗ (∃ W, owes (c : Thread nD τ) (oweT c 31) W)
    ∗ bigSep (Finset.univ.filter fun t : Fin 31 => 31 ≤ t.val) (pkg c)
    ∗ bigSep (Finset.univ.filter fun t : Fin 31 => 31 ≤ rank t) (rpk c)
    ∗ bigSep (Finset.univ.filter fun t : Fin 31 => rank t < 31) (fun t => semVal (recvCell c t) 0)
    ∗ bigSep (Finset.univ.filter fun t : Fin 31 => w ≤ t.val ∧ t.val < 31) (fun t => cred (tallyAt (sendCell c t) () N))
    ∗ bigSep (Finset.univ.filter fun t : Fin 31 => w ≤ t.val) (fun t => atPos ER (sendCell c t) 0 ∅ 0)
    ∗ bigSep (Finset.univ.filter fun t : Fin 31 => t.val < w) (fun t => semVal (sendCell c t) 0)
    ∗ (bigSep Finset.univ fun a : Slot => bigSep (Finset.univ.filter fun t : Fin 31 => ¬ srcOf t = a) fun t => slotPts c (owner c a) (tokQ t) (gath m ρ))
    ∗ bigSep (act 31 31 w) (piece m ρ c))

omit [FloatOps F] in
theorem read_St (w : ℕ) : St m ρ K c 31 31 w ⊣⊢ iprop(gxPts c keepQ (gath m ρ) ∗ StR m ρ K c w) := by
  have e : bigSep (acq 31) (kept m ρ c) = iprop(gxPts c keepQ (gath m ρ) ∗ bigSep Finset.univ fun a : Slot =>
      bigSep (Finset.univ.filter fun t : Fin 31 => ¬ srcOf t = a) fun t => slotPts c (owner c a) (tokQ t) (gath m ρ)) := by
    rw [show acq 31 = Finset.univ by decide]; exact kept_all m ρ c
  unfold St StR
  rw [e]
  constructor
  · iintro ⟨H1, H2, H3, H4, H5, H6, H7, H8, H9, ⟨Hg, Hx⟩, H11⟩
    isplitl [Hg]; · iexact Hg
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [Hx] <;> iassumption
  · iintro ⟨Hg, H1, H2, H3, H4, H5, H6, H7, H8, H9, Hx, H11⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [Hg Hx]
    · isplitl [Hg] <;> iassumption
    iexact H11

/-- What the store leaves in the result's buffer, from the two whole buffers it loaded. -/
theorem stored_eq (fo : (cc0_stg2_0 : Ref sig .tc).ty.Contents (Elt F)) (hg hw ho) :
    ((oM : Memref sig .tc .vmem S1024x32 .f32).access (Rect.unit (s := S1024x32) ![0, 0] S1024x32.size ho) : View sig .tc _ _ _).write (Elt F) fo
      (k0_pay2 ((gxM : Memref sig .tc .vmem S1024x1024 .bf16).view.readAt (Elt F) (Rect.unit (s := S1024x1024) ![0, 0] S1024x1024.size hg).toLoadRect (gath m ρ))
        ((wM : Memref sig .tc .vmem S1024x32 .bf16).view.readAt (Elt F) (Rect.unit (s := S1024x32) ![0, 0] S1024x32.size hw).toLoadRect (wstg m ρ c)))
      Finset.univ = outAt m ρ c :=
  (Memref.write_access_unit_zero_univ (Elt F) cc0_stg2_0 whole_off _ _ _).trans
    (congrArg₂ (k0_pay2 (F := F)) (Memref.readAt_unit_zero (Elt F) cc0_scratch0 whole_off _ _) (Memref.readAt_unit_zero (Elt F) cc0_stg1_0 whole_off _ _))

/-- The product: everything gathered times the device's block of `w`; then the first four sends are awaited. -/
theorem part37 : iprop(St m ρ K c 31 31 0 ∗ wPts m ρ c ∗ ∃ f, oPts (F := F) c f) ⊢ wpc c (k0_part37 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6 c)
    fun _ => iprop(St m ρ K c 31 31 4 ∗ wPts m ρ c ∗ oPts c (outAt m ρ c)) := by
  rw [k0_part37_eq_skeleton]; unfold k0_part37_skel wpc
  simp only [Prog.lift, Prog.bind_op, Prog.bind_ret, Prog.pure_eq_ret]
  unfold wPts oPts
  iintro ⟨HS, Hw, ⟨%fo, Ho⟩⟩
  ihave HS := (read_St m ρ K c 0).1 $$ HS
  icases HS with ⟨Hg, HS⟩
  unfold gxPts
  iapply (wp_load 𝒱₀ (c : Thread nD τ) none Set.univ (m := gxM) (Finset.subset_univ _)) $$ Hg; iintro Hg
  iapply (wp_load 𝒱₀ (c : Thread nD τ) none Set.univ (m := wM) (Finset.subset_univ _)) $$ Hw; iintro Hw
  iapply (wp_load 𝒱₀ (c : Thread nD τ) none Set.univ (m := oM) (Finset.subset_univ _)) $$ Ho; iintro Ho
  iapply (wp_store 𝒱₀ (c : Thread nD τ) none Set.univ (m := oM) (r := Rect.unit (s := S1024x32) ![0, 0] S1024x32.size inb_S1024x32_S1024x32_0_0) (Mk := Finset.univ) (Finset.subset_univ _)) $$ Ho; iintro Ho
  rw [stored_eq]
  ihave HS := (read_St m ρ K c 0).2 $$ [Hg HS]
  · isplitl [Hg]; · unfold gxPts; iexact Hg
    iexact HS
  iapply (step_swait m ρ K c 0 0 1 rfl rfl rfl) $$ HS
  iintro HS
  iapply (step_swait m ρ K c 1 1 2 rfl rfl rfl) $$ HS
  iintro HS
  iapply (step_swait m ρ K c 2 2 3 rfl rfl rfl) $$ HS
  iintro HS
  iapply (step_swait m ρ K c 3 3 4 rfl rfl rfl) $$ HS
  iintro HS
  rw [wp_ret]; imodintro
  isplitl [HS]; · iexact HS
  isplitl [Hw]; · iexact Hw
  iexact Ho

/-- What the parts before the product leave alone. -/
def Wo : sProp 𝕄 := iprop(semVal (barCell c) 0 ∗ xPts m ρ c)

theorem part42 : iprop(Sg m ρ K c 0 ∗ Rest m ρ c ∗ wPts m ρ c ∗ ∃ f, oPts (F := F) c f) ⊢ wpc c (k0_part42 (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6)
    fun x => iprop(⌜x = c⌝ ∗ St m ρ K c 31 31 30 ∗ Wo m ρ c ∗ wPts m ρ c ∗ oPts c (outAt m ρ c)) := by
  rw [k0_part42_eq_skeleton]; unfold k0_part42_skel
  refine seqE _ (part1 c) ?_
  rintro ⟨d0, v2, v19, v20, v32, v33, c5⟩ (rfl : d0 = c)
  refine seqF (part2 d0 _ _ _ _) ?_
  rintro ⟨v34, v52, v55, v56, v62, v63⟩
  refine seqE _ (part3 m ρ K d0 _ _ _ _ _ _ _) ?_
  rintro ⟨v71, v75, v79, v83, v84⟩ (rfl : v84 = _)
  refine asl ?_
  refine seqF (part4 m ρ K d0 _ _ _ _) ?_
  intro _
  refine asr ?_
  refine seqF (part5 m ρ K d0 _ _ _ _) ?_
  intro c1_i32_122
  refine seqF (part6 m ρ K d0 _ _ _ _ _) ?_
  rintro ⟨v178, v181⟩
  refine seqF (part7 m ρ K d0 _ _ _ _ _ _) ?_
  rintro ⟨v207, v210, v212⟩
  refine seqF (part8 m ρ K d0 _ _ _ _ _) ?_
  intro _
  refine seqF (part9 m ρ K d0 _ _ _) ?_
  intro v272
  refine seqF (part10 m ρ K d0 _ _ _ _ _ _) ?_
  rintro ⟨v301, v303, c8_i32_259⟩
  refine seqF (part11 m ρ K d0 _ _ _ _ _) ?_
  intro _
  refine seqF (part12 m ρ K d0 _ _ _) ?_
  intro _
  refine seqF (part13 m ρ K d0 _ _ _) ?_
  rintro ⟨v393, c32_i32_345⟩
  refine seqF (part14 m ρ K d0 _ _ _ _ _ _) ?_
  rintro ⟨v412, v415, v423⟩
  refine seqF (part15 m ρ K d0 _ _ _ _ _ _ _) ?_
  rintro ⟨v449, v452, v453, c1_i32_401⟩
  refine seqF (part16 m ρ K d0 _ _ _ _ _ _) ?_
  intro c1_i32_429
  refine seqF (part17 m ρ K d0 _ _ _ _) ?_
  intro _
  refine seqF (part18 m ρ K d0 _ _ _) ?_
  intro _
  refine seqF (part19 m ρ K d0 _ _ _ _) ?_
  rintro ⟨v560, v563, v573⟩
  refine seqF (part20 m ρ K d0 _ _ _ _ _ _ _) ?_
  rintro ⟨v597, v600, v602, v603⟩
  refine seqF (part21 m ρ K d0 _ _ _ _ _ _ _) ?_
  rintro ⟨v633, c8_i32_570⟩
  refine seqF (part22 m ρ K d0 _ _ _ _ _) ?_
  intro v663
  refine seqF (part23 m ρ K d0 _ _ _ _) ?_
  rintro ⟨v692, c0_i32_628⟩
  refine seqF (part24 m ρ K d0 _ _ _ _ _) ?_
  rintro ⟨v708, v711, v723⟩
  refine seqF (part25 m ρ K d0 _ _ _ _ _ _ _) ?_
  rintro ⟨v745, v748, v752, v753⟩
  refine seqF (part26 m ρ K d0 _ _ _ _ _ _ _ _) ?_
  rintro ⟨v782, v783, c2_i32_710⟩
  refine seqF (part27 m ρ K d0 _ _ _ _ _) ?_
  intro _
  refine seqF (part28 m ρ K d0 _ _ _) ?_
  intro _
  refine seqF (part29 m ρ K d0 _ _ _) ?_
  rintro ⟨v856, v873⟩
  refine seqF (part30 m ρ K d0 _ _ _ _ _ _) ?_
  rintro ⟨v893, v896, v902, v903⟩
  refine seqF (part31 m ρ K d0 _ _ _ _ _ _) ?_
  intro _
  refine seqF (part32 m ρ K d0 _ _ _) ?_
  intro _
  refine seqF (part33 m ρ K d0 _ _ _) ?_
  rintro ⟨v985, v988, v990, v991, c2_i32_905⟩
  refine seqF (part34 m ρ K d0 _ _ _ _ _ _ _) ?_
  intro _
  refine seqF (part35 m ρ K d0 _ _ _) ?_
  intro _
  refine seqF (part36 m ρ K d0 _) ?_
  intro _
  refine prodIn ?_
  refine seqF (part37 m ρ K d0) ?_
  intro _
  refine prodOut ?_
  refine seqF (part38 m ρ K d0) ?_
  intro _
  refine seqF (part39 m ρ K d0) ?_
  intro _
  refine seqF (part40 m ρ K d0) ?_
  intro _
  refine seqF (part41 m ρ K d0) ?_
  intro _
  simp only [Prog.lift, Prog.bind_op, Prog.bind_ret, Prog.pure_eq_ret]
  refine thnF (step_swait m ρ K d0 28 28 29 rfl rfl rfl) ?_
  refine thnF (step_swait m ρ K d0 29 29 30 rfl rfl rfl) ?_
  iintro H; rw [wp_ret]; imodintro
  isplitr; · ipureintro; rfl
  iexact H

theorem whole_body : iprop(Sg m ρ K c 0 ∗ Rest m ρ c ∗ wPts m ρ c ∗ ∃ f, oPts (F := F) c f) ⊢ wpc c (cc0_body (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6)
    fun _ => iprop(St m ρ K c 31 31 31 ∗ Wo m ρ c ∗ wPts m ρ c ∗ oPts c (outAt m ρ c)) := by
  rw [cc0_body_eq_skeleton]; unfold cc0_body_skel
  refine seqE' _ (part42 m ρ K c) ?_
  rintro d0 (rfl : d0 = c)
  simp only [Prog.lift, Prog.bind_op, Prog.bind_ret, Prog.pure_eq_ret]
  refine thnF (step_swait m ρ K d0 30 30 31 rfl rfl rfl) ?_
  exact fin _
end Prod

end Cert.AllGather

end
-- ==== Proof.Point.lean ====
/- The body at the launch's one grid point: from what the launch hands device `c` to what it takes back. -/
module

public import proofs.«01_k».proof.Proof.Body
public import Idealize.ShloMosaic.Lib.Pipeline.Launch
public import Idealize.ShloMosaic.Lib.Pipeline.Kit

@[expose] public section

set_option maxRecDepth 16384

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the body starts from and what it leaves -/

/-- Device `c`'s share of the protocol: the shared facts, its place at round 0 of each of its semaphores, and the tokens
    of the duties it pays. -/
def ghost (K : Dev nD × CIx → ℕ) (c : Dev nD) : sProp 𝕄 :=
  iprop(records m ρ K ∗ atPos ER (barCell c) 0 ∅ 0
    ∗ (bigSep Finset.univ fun t : Fin 31 => atPos ER (recvCell c t) 0 ∅ 0)
    ∗ (bigSep Finset.univ fun t : Fin 31 => atPos ER (sendCell c t) 0 ∅ 0)
    ∗ (bigSep Finset.univ fun k : Fin 5 => dutyTok ER (barCell (sgt k c)) 0 k)
    ∗ toks c)

/-- With its credit and the levels. -/
def start (c : Dev nD) : sProp 𝕄 :=
  iprop((∃ K, ghost m ρ K c)
    ∗ (cred (tallyAt (barCell c) () 5) ∗ bigSep Finset.univ fun t : Fin 31 => cred (tallyAt (recvCell c t) () N))
    ∗ levAts L lv)

def Φ₀ (c : Dev nD) : sProp 𝕄 := iprop(start m ρ c ∗ ∃ f, gxPts (F := F) c fullShare f)
/-- After the body: the gathering buffer full, every semaphore of the protocol back at zero. -/
def Φ₁ (c : Dev nD) : sProp 𝕄 :=
  iprop(gxPts c fullShare (gath m ρ) ∗ (bigSep Finset.univ fun x : Bool × Fin 31 => semVal ((c : Thread nD τ), osem x) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

omit [FloatOps F] in
/-- A family over the kernel's own semaphores: the sending ones and the receiving ones. -/
theorem own_split (Φ : Bool × Fin 31 → sProp 𝕄) :
    bigSep Finset.univ Φ = iprop((bigSep Finset.univ fun t : Fin 31 => Φ (false, t)) ∗ bigSep Finset.univ fun t : Fin 31 => Φ (true, t)) := by
  rw [bigSep_univ_prod, bigSep_univ_eq_bigSepL [false, true] (by decide) (by decide)]; rfl

/-- What the launch hands the body: the protocol's part, what is owed, and the three staging buffers, -/
def bodyPre (c : Dev nD) : sProp 𝕄 :=
  iprop(Φ₀ m ρ c ∗ (dats m ρ 0 c).owesAt () t0_0.castSucc
    ∗ (∃ d, ((c : Thread nD τ).loc cc0_stg0_0) ↦{fullShare} ((dats m ρ 0 c).before (0 : Fin 3) t0_0 d))
    ∗ (∃ d, ((c : Thread nD τ).loc cc0_stg1_0) ↦{fullShare} ((dats m ρ 0 c).before (1 : Fin 3) t0_0 d))
    ∗ (∃ d, ((c : Thread nD τ).loc cc0_stg2_0) ↦{fullShare} ((dats m ρ 0 c).before (2 : Fin 3) t0_0 d)))

/-- and what it takes back: the same, with the product in the result's buffer. -/
def bodyPost (c : Dev nD) : sProp 𝕄 :=
  iprop(Φ₁ m ρ c ∗ (dats m ρ 0 c).owesAt () t0_0.succ ∗ xPts m ρ c ∗ wPts m ρ c ∗ oPts c (outAt m ρ c))

/-- The five signals' tokens, and the blocks of the buffer they hand over, side by side. -/
theorem to_Sg (K : Dev nD × CIx → ℕ) (c : Dev nD) :
    iprop(records m ρ K ∗ levAts L lv ∗ (∃ W, owes (c : Thread nD τ) (O₀ c) W)
      ∗ (bigSep Finset.univ fun k : Fin 5 => dutyTok ER (barCell (sgt k c)) 0 k)
      ∗ bigSep Finset.univ fun k : Fin 5 => grant (F := F) (sgt k c) k) ⊢ Sg m ρ K c 0 := by
  unfold Sg O₀
  rw [show (Finset.univ.filter fun k : Fin 5 => 0 ≤ k.val) = Finset.univ by decide, bigSep_sep']

/-- What the last step leaves of the transfers' state. -/
theorem St_end (K : Dev nD × CIx → ℕ) (c : Dev nD) :
    St m ρ K c 31 31 31 ⊢ iprop(gxPts c fullShare (gath m ρ)
      ∗ (bigSep Finset.univ fun x : Bool × Fin 31 => semVal ((c : Thread nD τ), osem x) 0)
      ∗ ∃ W, owes (c : Thread nD τ) (0 : CellTallies nD τ sig Unit) W) := by
  unfold St
  rw [oweT_end, show (Finset.univ.filter fun t : Fin 31 => rank t < 31) = Finset.univ by decide,
    show (Finset.univ.filter fun t : Fin 31 => t.val < 31) = Finset.univ by decide,
    show acq 31 = Finset.univ by decide, show act 31 31 31 = Finset.univ by decide, own_split]
  iintro ⟨-, -, HO, -, -, Hr, -, -, Hs, Hk, Hp⟩
  isplitl [Hk Hp]
  · iapply (gx_back m ρ c)
    isplitl [Hk] <;> iassumption
  isplitl [Hr Hs]
  · isplitl [Hs]
    · iexact Hs
    · iexact Hr
  iexact HO

/-- From what the launch hands over to what the body starts from, -/
theorem pre_in (c : Dev nD) :
    bodyPre m ρ c ⊢ iprop(∃ K, Sg m ρ K c 0 ∗ Rest m ρ c ∗ wPts m ρ c ∗ ∃ f, oPts (F := F) c f) := by
  unfold bodyPre Φ₀ start ghost
  iintro ⟨⟨⟨⟨%K, #Hrec, HaB, HaV, HaS, HtB, Htk⟩, ⟨HcB, HcV⟩, #Hlev⟩, ⟨%f, Hgx⟩⟩, ⟨%W, -, Ho⟩, ⟨%dx, Hx⟩, ⟨%dw, Hw⟩, ⟨%do', Hout⟩⟩
  rw [show (dats m ρ 0 c).before (0 : Fin 3) t0_0 dx = xstg m ρ c by unfold Dat.before; rw [if_pos (fetch0_0 _)]; rfl,
    show (dats m ρ 0 c).before (1 : Fin 3) t0_0 dw = wstg m ρ c by unfold Dat.before; rw [if_pos (fetch0_1 _)]; rfl]
  ihave Hg := (gx_grants c f) $$ Hgx
  icases Hg with ⟨Hown, Hgr⟩
  ihave Hsg := (to_Sg m ρ K c) $$ [Ho HtB Hgr]
  · isplitr; · iexact Hrec
    isplitr; · iexact Hlev
    isplitl [Ho]; · iexists W; iexact Ho
    isplitl [HtB] <;> iassumption
  ihave Hv := (Entails.of_eq (bigSep_sep' Finset.univ (fun t : Fin 31 => (atPos ER (recvCell c t) 0 ∅ 0 : sProp 𝕄))
    (fun t => cred (tallyAt (recvCell c t) () N))).symm) $$ [HaV HcV]
  · isplitl [HaV] <;> iassumption
  unfold Rest xPts wPts oPts
  iexists K
  isplitl [Hsg]; · iexact Hsg
  isplitl [HaB HcB Hown Htk Hv HaS Hx]
  · isplitl [HaB HcB]
    · isplitl [HaB] <;> iassumption
    isplitl [Hown]; · iexists f; iexact Hown
    isplitl [Htk Hv HaS]
    · isplitl [Htk]; · iexact Htk
      isplitl [Hv]; · iexact Hv
      iexact HaS
    iexact Hx
  isplitl [Hw]; · iexact Hw
  iexists _; iexact Hout

/-- and from what it leaves to what the launch takes back. -/
theorem post_out (K : Dev nD × CIx → ℕ) (c : Dev nD) :
    iprop(St m ρ K c 31 31 31 ∗ Wo m ρ c ∗ wPts m ρ c ∗ oPts c (outAt m ρ c)) ⊢ bodyPost m ρ c := by
  unfold Wo bodyPost Φ₁
  iintro ⟨HS, ⟨HB, Hx⟩, Hw, Hout⟩
  ihave HE := (St_end m ρ K c) $$ HS
  icases HE with ⟨Hg, Hz, ⟨%W, Ho⟩⟩
  isplitl [Hg Hz HB]
  · isplitl [Hg]; · iexact Hg
    isplitl [Hz] <;> iassumption
  isplitl [Ho]
  · iexists W
    isplitr; · (ipureintro; exact fun _ _ => Or.inl trivial)
    iexact Ho
  isplitl [Hx]; · iexact Hx
  isplitl [Hw]; · iexact Hw
  iexact Hout

/-- A weakest precondition under a weaker postcondition. -/
theorem wpc_post {P Q R : sProp 𝕄} {c : Dev nD} {α : Type} {p : Prog (TpuEff nD τ sig (Elt F) Λ₀ .tc) α}
    (h : P ⊢ wpc c p fun _ => Q) (hq : Q ⊢ R) : P ⊢ wpc c p fun _ => R := by
  unfold wpc at *
  exact h.trans (wp_mono frame (wpE (defs₀ (F := F)) 𝒱₀ (c : Thread nD τ) none) Set.univ fun _ => hq)

/-- The body from the one to the other. -/
theorem sound_body (c : Dev nD) :
    bodyPre m ρ c ⊢ wpc c (cc0_body (F := F) (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      cc0_scratch1 cc0_scratch2 cc0_scratch3 cc0_scratch4 cc0_scratch5 cc0_scratch6) fun _ => bodyPost m ρ c := by
  refine (pre_in m ρ c).trans ?_
  iintro ⟨%K, H⟩
  iapply (wpc_post (whole_body m ρ K c) (post_out m ρ K c))
  iexact H

/-- What the launch asks of the body. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  exact sound_body m ρ c

end Cert.AllGather

end
-- ==== Proof.Run.lean ====
/- The launch: the protocol's ghost state minted and dealt to the devices, the launch credit, and the run of the
   whole program on the thirty-two devices. -/
module

public import proofs.«01_k».proof.Proof.Point
public import Idealize.ShloMosaic.Lib.Pipeline.CollectiveSegs

@[expose] public section

set_option maxRecDepth 16384

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's facts about the kernel's semaphores -/

theorem ownSemFacts : Pipeline.OwnSemFacts cfg0.spec osem := by decide

theorem share_eq (c : Dev nD) (w : Fin cfg0.W) : (dats m ρ 0 c).share w = fullShare := by unfold Dat.share; split <;> rfl

theorem osem_injective : Function.Injective osem := by
  rintro ⟨a, t⟩ ⟨b, t'⟩ h
  unfold osem at h
  cases a <;> cases b <;> simp only [if_true, Bool.false_eq_true, if_false] at h
  · rw [ssem_inj (SemLoc.dma.inj h)]
  · exact absurd (SemLoc.dma.inj h) (ssem_ne_rsem _ _)
  · exact absurd (SemLoc.dma.inj h).symm (ssem_ne_rsem _ _)
  · rw [rsem_inj (SemLoc.dma.inj h)]

theorem osem_ne_bar (x : Bool × Fin 31) : osem x ≠ .reg barS := by
  unfold osem; split <;> exact nofun

theorem csem_injective : Function.Injective csem
  | none, none, _ => rfl
  | none, some x, h => absurd h.symm (osem_ne_bar x)
  | some x, none, h => absurd h (osem_ne_bar x)
  | some x, some y, h => congrArg some (osem_injective h)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-! ## The protocol's ghost state, minted and dealt -/

def theCells : Finset (GSem nD τ sig) := Finset.univ.map ⟨kcell, kcell_injective⟩

/-- The duty tokens, minted five to a semaphore: a barrier uses all, a transfer's semaphore the first. -/
def tokOf (x : (Dev nD × CIx) × Fin 5) : GSem nD τ sig × ℕ × Fin 5 := (kcell x.1, 0, x.2)
theorem tokOf_injective : Function.Injective tokOf := by
  rintro ⟨ck, d⟩ ⟨ck', d'⟩ h
  have h1 : ck = ck' := kcell_injective (congrArg Prod.fst h)
  have h2 : d = d' := congrArg (fun x : GSem nD τ sig × ℕ × Fin 5 => x.2.2) h
  rw [h1, h2]
def theToks : Finset (GSem nD τ sig × ℕ × Fin 5) := Finset.univ.map ⟨tokOf, tokOf_injective⟩

def u₀ : UU :=
  (initOf (Pipeline.cells cfgs cellOf_inj) (Pipeline.launchToks cfgs cellOf_inj), initOf theCells theToks)

/-- The tokens of device `c`'s own semaphores that are used. -/
def ownToks (c : Dev nD) : sProp 𝕄 :=
  iprop((bigSep Finset.univ fun k : Fin 5 => dutyTok ER (barCell c) 0 k)
    ∗ (bigSep Finset.univ fun t : Fin 31 => dutyTok ER (recvCell c t) 0 0)
    ∗ bigSep Finset.univ fun t : Fin 31 => dutyTok ER (sendCell c t) 0 0)

/-- What the launch deals device `c`, -/
def G (c : Dev nD) : sProp 𝕄 :=
  iprop((bigSep Finset.univ fun k : CIx => roundState ER (Rd m ρ) (kcell (c, k)) 0)
    ∗ (bigSep Finset.univ fun k : CIx => iprop(atPos ER (kcell (c, k)) 0 ∅ 0 ∗ reached ER (kcell (c, k)) 0)) ∗ ownToks c)

/-- and what the step over all devices makes of it. -/
def G' (c : Dev nD) : sProp 𝕄 := iprop(∃ K, ghost m ρ K c)

omit [FloatOps F] in
/-- A family over a device's protocol semaphores: the barrier, the receiving and the sending ones. -/
theorem univ_cix (Φ : CIx → sProp 𝕄) : bigSep Finset.univ Φ
    = iprop(Φ none ∗ (bigSep Finset.univ fun t : Fin 31 => Φ (some (true, t))) ∗ bigSep Finset.univ fun t : Fin 31 => Φ (some (false, t))) := by
  have h : (bigSep Finset.univ Φ : sProp 𝕄) = iprop(Φ none ∗ bigSep Finset.univ fun x : Bool × Fin 31 => Φ (some x)) := by
    rw [show (Finset.univ : Finset CIx) = insert none (Finset.univ.map Function.Embedding.some) from rfl, ins (by simp)]
    congr 1
  rw [h, bigSep_univ_prod, bigSep_univ_eq_bigSepL [true, false] (by decide) (by decide)]; rfl

omit [FloatOps F] in
theorem toks_used (c : Dev nD) :
    (bigSep Finset.univ fun k : CIx => bigSep Finset.univ fun d : Fin 5 => (dutyTok ER (kcell (c, k)) 0 d : sProp 𝕄)) ⊢ ownToks c := by
  rw [univ_cix]
  unfold ownToks
  exact sep_mono (show _ ⊢ (bigSep Finset.univ fun k : Fin 5 => (dutyTok ER (barCell c) 0 k : sProp 𝕄)) from Entails.of_eq rfl) (sep_mono
    (bigSep_mono fun t _ => one_of (fun d : Fin 5 => (dutyTok ER (recvCell c t) 0 d : sProp 𝕄)) 0)
    (bigSep_mono fun t _ => one_of (fun d : Fin 5 => (dutyTok ER (sendCell c t) 0 d : sProp 𝕄)) 0))

omit [FloatOps F] in
theorem fund : BI.own (ER (initOf theCells theToks)) ⊢ (|==> bigSep Finset.univ (G m ρ) : sProp 𝕄) := by
  have hX (Φ : GSem nD τ sig → sProp 𝕄) : bigSep theCells Φ = bigSep Finset.univ fun c : Dev nD => bigSep Finset.univ fun k : CIx => Φ (kcell (c, k)) := by
    unfold theCells; rw [bigSep_map, bigSep_univ_prod]; rfl
  have hT : bigSep theToks (fun x => (dutyTok ER x.1 x.2.1 x.2.2 : sProp 𝕄)) ⊢ bigSep Finset.univ fun c : Dev nD => ownToks c := by
    unfold theToks; rw [bigSep_map, bigSep_univ_prod, bigSep_univ_prod]
    exact bigSep_mono fun c _ => toks_used c
  iintro HX
  imod (Rounds.fund ER (Rd m ρ) theCells theToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-! ### The semaphores under their invariants -/

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun x : Bool × Fin 31 => semVal ((c : Thread nD τ), osem x) 0 := by
  unfold Pipeline.ownSems0; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (kcell (c, k)) 0 : sProp 𝕄) := by
  rw [ownSems0_eq, unscopedSems0_eq, univ_cix, own_split]
  iintro ⟨⟨HS, HV⟩, HB⟩
  isplitl [HB]; · iexact HB
  isplitl [HV]
  · iexact HV
  · iexact HS

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun k : CIx => semVal (kcell (c, k)) 0) ∗ bigSep Finset.univ fun k : CIx => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### The tokens to their payers -/

/-- A transfer of a device and the device it goes to, -/
def tgtEquiv : Dev nD × Fin 31 ≃ Dev nD × Fin 31 where
  toFun x := (tgt x.2 x.1, x.2)
  invFun x := (frm x.2 x.1, x.2)
  left_inv x := by show (frm x.2 (tgt x.2 x.1), x.2) = x; rw [frm_tgt]
  right_inv x := by show (tgt x.2 (frm x.2 x.1), x.2) = x; rw [tgt_frm]
/-- and a signal of a device and the device it goes to. -/
def sgtEquiv : Dev nD × Fin 5 ≃ Dev nD × Fin 5 where
  toFun x := (sgt x.2 x.1, x.2)
  invFun x := (sgt (sback x.2) x.1, x.2)
  left_inv x := by show (sgt (sback x.2) (sgt x.2 x.1), x.2) = x; rw [sback_sgt]
  right_inv x := by show (sgt x.2 (sgt (sback x.2) x.1), x.2) = x; rw [sgt_sback]

omit [FloatOps F] in
theorem recv_around (Φ : Dev nD → Fin 31 → sProp 𝕄) :
    (bigSep Finset.univ fun c : Dev nD => bigSep Finset.univ fun t : Fin 31 => Φ c t)
      = bigSep Finset.univ fun c : Dev nD => bigSep Finset.univ fun t : Fin 31 => Φ (tgt t c) t := by
  rw [← bigSep_univ_prod (fun x : Dev nD × Fin 31 => Φ x.1 x.2), bigSep_univ_equiv tgtEquiv, bigSep_univ_prod]; rfl
omit [FloatOps F] in
theorem bar_around (Φ : Dev nD → Fin 5 → sProp 𝕄) :
    (bigSep Finset.univ fun c : Dev nD => bigSep Finset.univ fun t : Fin 5 => Φ c t)
      = bigSep Finset.univ fun c : Dev nD => bigSep Finset.univ fun t : Fin 5 => Φ (sgt t c) t := by
  rw [← bigSep_univ_prod (fun x : Dev nD × Fin 5 => Φ x.1 x.2), bigSep_univ_equiv sgtEquiv, bigSep_univ_prod]; rfl

/-- The tokens of the duties device `c` pays. -/
def payToks (c : Dev nD) : sProp 𝕄 :=
  iprop((bigSep Finset.univ fun k : Fin 5 => dutyTok ER (barCell (sgt k c)) 0 k) ∗ toks c)

omit [FloatOps F] in
theorem toks_around : (bigSep Finset.univ fun c : Dev nD => (ownToks c : sProp 𝕄)) ⊢ bigSep Finset.univ fun c : Dev nD => payToks c := by
  unfold ownToks payToks toks
  simp only [bigSep_sep']
  rw [bar_around (fun c k => (dutyTok ER (barCell c) 0 k : sProp 𝕄)), recv_around (fun c t => (dutyTok ER (recvCell c t) 0 0 : sProp 𝕄))]

/-- What stays with device `c`: its places, and the tokens of the duties it pays. -/
def linear (c : Dev nD) : sProp 𝕄 := iprop((bigSep Finset.univ fun k : CIx => atPos ER (kcell (c, k)) 0 ∅ 0) ∗ payToks c)

omit [FloatOps F] in
theorem ghost_intro (K : Dev nD × CIx → ℕ) (c : Dev nD) : iprop(records m ρ K ∗ linear c) ⊢ G' m ρ c := by
  unfold linear payToks G' ghost
  rw [univ_cix]
  iintro ⟨HR, ⟨HaB, HaV, HaS⟩, HtB, Htk⟩
  iexists K
  isplitl [HR]; · iexact HR
  isplitl [HaB]; · iexact HaB
  isplitl [HaV]; · iexact HaV
  isplitl [HaS]; · iexact HaS
  isplitl [HtB] <;> iassumption

omit [FloatOps F] in
/-- The shared facts and every device's own part make every device's ghost state. -/
theorem ghosts_intro (K : Dev nD × CIx → ℕ) :
    iprop(records m ρ K ∗ bigSep Finset.univ fun c : Dev nD =>
      iprop((bigSep Finset.univ fun k : CIx => (atPos ER (kcell (c, k)) 0 ∅ 0 : sProp 𝕄)) ∗ payToks c))
      ⊢ bigSep Finset.univ (G' m ρ) := by
  refine (sep_mono_left (BI.bigSep_of_persistent (Finset.univ : Finset (Dev nD)) (records m ρ K))).trans ?_
  rw [← bigSep_sep']
  exact bigSep_mono fun c _ => ghost_intro m ρ K c

omit [FloatOps F] in
theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' m ρ) := by
  rw [bigSep_sep', bigSep_sep', ← bigSep_univ_prod (fun ck : Dev nD × CIx => iprop(∃ κ : ℕ, cellInv ER (Rd m ρ) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (Rd m ρ) κ (kcell ck) : sProp 𝕄))) $$ HI
  icases HK with ⟨%K, #HI⟩
  ihave Htk := (toks_around (F := F)) $$ Htok
  iapply (ghosts_intro m ρ K)
  isplitr
  · unfold records; isplitl; · iexact HI
    iexact HR
  · iapply (Entails.of_eq (bigSep_sep' Finset.univ (fun c : Dev nD => bigSep Finset.univ fun k : CIx => (atPos ER (kcell (c, k)) 0 ∅ 0 : sProp 𝕄)) payToks).symm)
    isplitl [Hat]; · iexact Hat
    iexact Htk

omit [FloatOps F] in
/-- The step over all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem creds (c : Dev nD) :
    (Pipeline.launchCred O₀ c : sProp 𝕄)
      ⊢ iprop(cred (tallyAt (barCell c) () 5) ∗ bigSep Finset.univ fun t : Fin 31 => cred (tallyAt (recvCell c t) () N)) := by
  have e5 : (tallyAt (barCell c) () 5 : CellTallies nD τ sig Unit) = ∑ k : Fin 5, tallyAt (barCell c) () 1 := by
    rw [Fin.sum_univ_five, tallyAt_add, tallyAt_add, tallyAt_add, tallyAt_add]
  have e0 : O₀ = fun d => (∑ t : Fin 31, tallyAt (recvCell (tgt t d) t) () N) + ∑ k : Fin 5, tallyAt (barCell (sgt k d)) () 1 := by
    funext d; unfold O₀ oweT oweB
    rw [show (Finset.univ.filter fun t : Fin 31 => 0 ≤ t.val) = Finset.univ by decide,
      show (Finset.univ.filter fun t : Fin 5 => 0 ≤ t.val) = Finset.univ by decide]
  rw [e0, Pipeline.launchCred_add, Pipeline.launchCred_sum Finset.univ (fun (t : Fin 31) d => tallyAt (recvCell (tgt t d) t) () N),
    Pipeline.launchCred_sum Finset.univ (fun (k : Fin 5) d => tallyAt (barCell (sgt k d)) () 1), e5, Pipeline.cred_finsetSum]
  have hR (t : Fin 31) : (Pipeline.launchCred (fun d : Dev nD => tallyAt (recvCell (tgt t d) t) () N) c : sProp 𝕄) ⊢ cred (tallyAt (recvCell c t) () N) :=
    Pipeline.launchCred_tallyAt (.dma (rsem t)) (tgt t) (frm t) (tgt_frm t) (frm_tgt t) () N c
  have hB (k : Fin 5) : (Pipeline.launchCred (fun d : Dev nD => tallyAt (barCell (sgt k d)) () 1) c : sProp 𝕄) ⊢ cred (tallyAt (barCell c) () 1) :=
    Pipeline.launchCred_tallyAt (.reg barS) (sgt k) (sgt (sback k)) (sgt_sback k) (sback_sgt k) () 1 c
  exact (Idealize.SL.BI.BIClass.sep_mono (show _ ⊢ (bigSep Finset.univ fun t : Fin 31 => cred (tallyAt (recvCell c t) () N) : sProp 𝕄) from bigSep_mono fun t _ => hR t)
    (show _ ⊢ (bigSep Finset.univ fun k : Fin 5 => cred (tallyAt (barCell c) () 1) : sProp 𝕄) from bigSep_mono fun k _ => hB k)).trans sep_comm.1

/-! ### The launch's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ gxPts
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁ gxPts
  iintro ⟨Hr, Hz, HzB⟩
  isplitl [HzB]; · iexact HzB
  isplitl [Hz]; · iexact Hz
  iexists (gath m ρ); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- Every window's array at its final contents. -/
def QC : PUnit × MemSt nD τ sig (Elt F) → Prop := fun r =>
  ∀ c : Dev nD, ∀ w : Fin cfg0.W, r.2.mem ((cfg0.win w).arr.view.loc (c : Thread nD τ)) = finalA m ρ c w

/-- For any float values, from any memory with zero counters, every weakly fair execution of the thirty-two devices'
    programs terminates, and every final state has each window's array at its final contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.AllGather

end
-- ==== Proof.Product.lean ====
/- The values: what each array holds after the run, and each device's result against the whole product. -/
module

public import proofs.«01_k».proof.Proof.Run
public import Idealize.ShloMosaic.Lib.MatmulPlain
public import Idealize.ShloMosaic.Lib.StackMember
public import Idealize.ShloMosaic.Lib.Layout

@[expose] public section

set_option maxRecDepth 16384

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.ValueIdx

/-! ## What the arrays hold after the run -/

omit [FloatOps F] in
/-- The staged block of `x` is the device's whole array of it, -/
theorem xstg_eq (c : Dev nD) : xstg m ρ c = m ((c : Thread nD τ).loc main_arg0) :=
  Memref.read_access_unit_zero (Elt F) main_arg0 (funext fun a => by fin_cases a <;> rfl) _ _
omit [FloatOps F] in
/-- and likewise of `w`. -/
theorem wstg_eq (c : Dev nD) : wstg m ρ c = m ((c : Thread nD τ).loc main_arg1) :=
  Memref.read_access_unit_zero (Elt F) main_arg1 (funext fun a => by fin_cases a <;> rfl) _ _

theorem final_x (c : Dev nD) : finalA m ρ c (0 : Fin 3) = m ((c : Thread nD τ).loc main_arg0) :=
  (dats (F := F) m ρ 0 c).arrAt_in (0 : Fin 3) rfl _
theorem final_w (c : Dev nD) : finalA m ρ c (1 : Fin 3) = m ((c : Thread nD τ).loc main_arg1) :=
  (dats (F := F) m ρ 0 c).arrAt_in (1 : Fin 3) rfl _
/-- The result array holds what the body stored. -/
theorem final_out (c : Dev nD) : finalA m ρ c (2 : Fin 3) = outAt m ρ c := by
  unfold finalA
  rw [show cfg0.N = (t0_0 : Fin cfg0.N).val + 1 from N_0, Pipeline.Dat.arrAt_succ, if_pos (flush0_2 _)]
  exact Memref.write_access_unit_zero_univ (Elt F) main_v1 (funext fun a => by fin_cases a <;> rfl) _ _ _

/-- The run read at the three arrays: both arguments unchanged, the result what the body stored, every counter zero. -/
theorem run_arrays : θ_run defs (onTc (τ := τ) (main (F := F))) ⟨m, fun _ => 0, ρ⟩ (fun r => (∀ c : Dev nD,
      r.2.mem ((c : Thread nD τ).loc main_v1) = outAt m ρ c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1 c (2 : Fin 3)).trans (final_out m ρ c), (h.1 c (0 : Fin 3)).trans (final_x m ρ c),
    (h.1 c (1 : Fin 3)).trans (final_w m ρ c)⟩, h.2⟩) (run_main m ρ)

/-! ## The product, over the extended reals -/

section AtIdeal

variable (mi : (ℓ : Loc nD τ sig) → Buf (Elt Ideal) ℓ)

/-- The whole product at row `r` and column `l` of block `c` of the columns. -/
theorem whole_at (X W : FVec Ideal ⟨2, ![1024, 1024]⟩ .bf16) (c : Fin 32) (r : Fin 1024) (l : Fin 32) :
    Layout.block ⟨2, ![1024, 32]⟩ ⟨2, ![1024, 1024]⟩ 1 32 c
        (Host.dotGeneral (DotDims.plain 1024 1024 1024) none X W) (by decide) (ix2 r l)
      = ∑ k : Fin 1024, X (ix2 r k) * Layout.block ⟨2, ![1024, 32]⟩ ⟨2, ![1024, 1024]⟩ 1 32 c W (by decide) (ix2 k l) := by
  have hc := c.isLt
  have hl := l.isLt
  have e (k : Fin 1024) : (Layout.Tiles.idx (S := ⟨2, ![1024, 32]⟩) (T := ⟨2, ![1024, 1024]⟩) (a := 1) (k := 32) (by decide) c (ix2 k l))
      = ix2 k ⟨c.val * 32 + l.val, by omega⟩ := by
    funext a; apply Fin.ext
    match a with
    | ⟨0, _⟩ => rfl
    | ⟨1, _⟩ => rfl
  rw [Layout.block_apply, e r, StackMember.dotGeneral_plain_apply]
  exact Finset.sum_congr rfl fun k _ => by rw [Layout.block_apply, e k]

/-- The gathered buffer is the whole of `x`, when each device holds its block of rows of it. -/
theorem gath_whole (X : FVec Ideal ⟨2, ![1024, 1024]⟩ .bf16)
    (hX : ∀ c : Dev nD, mi ((c : Thread nD τ).loc main_arg0) = Layout.block ⟨2, ![32, 1024]⟩ ⟨2, ![1024, 1024]⟩ 0 32 c X (by decide)) :
    gath mi ρ = X := by
  funext i
  unfold gath
  rw [xstg_eq, hX, Layout.block_apply]
  congr 1
  funext a; apply Fin.ext
  match a with
  | ⟨0, _⟩ => exact Nat.div_add_mod' _ _
  | ⟨1, _⟩ => rfl

/-- Each device's result is its block of columns of the whole product. -/
theorem out_block (X W : FVec Ideal ⟨2, ![1024, 1024]⟩ .bf16)
    (hX : ∀ c : Dev nD, mi ((c : Thread nD τ).loc main_arg0) = Layout.block ⟨2, ![32, 1024]⟩ ⟨2, ![1024, 1024]⟩ 0 32 c X (by decide))
    (hW : ∀ c : Dev nD, mi ((c : Thread nD τ).loc main_arg1) = Layout.block ⟨2, ![1024, 32]⟩ ⟨2, ![1024, 1024]⟩ 1 32 c W (by decide))
    (c : Dev nD) :
    outAt mi ρ c = Layout.block ⟨2, ![1024, 32]⟩ ⟨2, ![1024, 1024]⟩ 1 32 c
        (Host.dotGeneral (DotDims.plain 1024 1024 1024) none X W) (by decide) := by
  funext j
  obtain ⟨r, l, rfl⟩ : ∃ (r : Fin 1024) (l : Fin 32), j = ix2 r l := ⟨j 0, j 1, eq_ix2 j⟩
  refine Eq.trans ?_ (whole_at X W c r l).symm
  unfold outAt k0_pay2
  simp only [shapeCast_self]
  rw [gath_whole ρ mi X hX, wstg_eq, hW]
  refine (Ideal.matmul_plain_apply (M := 1024) (K := 1024) (N := 32) none _ _ _ r l).trans ?_
  show Ideal.ofBits .f32 0x00000000#32 + _ = _
  rw [Ideal.ofBits_zero_f32, zero_add]
end AtIdeal

end Cert.AllGather

end
-- ==== Proof.lean ====
/- The proof of the five claims. The kernel and its idealization have the same text, so the run is proved once, for any
   float values (Proof/Product.lean `run_arrays`), and both frames are readings of it; the idealization rewrote nothing;
   the reference's run is the generated one; and the values agree by `out_block`: each device's result is its block of
   columns of the product of the whole matrices. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Product
public import Idealize.ShloMosaic.Adequacy
public import Idealize.ShloMosaic.Init

@[expose] public section

noncomputable section

namespace Cert.Proof

open Idealize.ShloMosaic Idealize.SL.Sem

/-- Over any float values the program runs, keeps its arguments and leaves every counter at zero. -/
theorem run_frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => (h.1 c).2, h.2⟩) (Cert.AllGather.run_arrays m ρ)

/-- The two programs' body tables agree: their one label runs the same body. -/
theorem table_eq {F : FTy → Type} [FloatOps F] : Cert.Kernel.defs (F := F) = Cert.KernelIdeal.defs (F := F) := by
  refine congrArg (Pipeline.defs Cert.KernelIdeal.pcfgs) ?_
  unfold Cert.Kernel.defs₀ Cert.KernelIdeal.defs₀
  refine congrArg Defs.onTc ?_
  funext l a
  match l, a with
  | 0, (t, s) => dsimp only; rfl

/-- At bit patterns: the kernel as printed. -/
theorem frame_kernel : Cert.quiescent_Kernel := fun m ρ _ => by
  rw [table_eq]
  exact run_frame (F := Bits) m ρ

/-- At exact numbers: its idealization. -/
theorem frame_kernelIdeal : Cert.quiescent_KernelIdeal := fun m ρ _ => run_frame (F := Ideal) m ρ

/-- And so does the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealization rewrote no operation. -/
theorem preserves : Cert.preserves_Kernel_KernelIdeal := trivial

/-- In exact arithmetic, from devices that hold their blocks of the reference's arguments, every device's result is its
    block of the reference's result; the reference's casts are the identity there. -/
theorem algebraic : Cert.algebraic_KernelIdeal_ReferenceIdeal := fun m ρ m' ρ' _ hargs =>
  ⟨_, (θ_run Cert.KernelIdeal.defs _ _).mono
      (fun _ h c => ⟨(h.1 c).1.trans (Cert.AllGather.out_block ρ m _ _ (fun c => (hargs c).1) (fun c => (hargs c).2) c), (h.1 c).2⟩)
      (Cert.AllGather.run_arrays (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, preserves, algebraic⟩

end Cert.Proof

end
